-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedRefIdeal (m : (ℓ : Loc Cert.GroupedRefIdeal.nD Cert.GroupedRefIdeal.τ Cert.GroupedRefIdeal.sig) → Buf (Elt Ideal) ℓ) : Prop :=
  True

def Pre_ProjMl (m : (ℓ : Loc Cert.ProjMl.nD Cert.ProjMl.τ Cert.ProjMl.sig) → Buf (Elt Bits) ℓ) : Prop :=
  True

def Pre_ProjMlIdeal (m : (ℓ : Loc Cert.ProjMlIdeal.nD Cert.ProjMlIdeal.τ Cert.ProjMlIdeal.sig) → Buf (Elt Ideal) ℓ) : Prop :=
  True

def Pre_ProjMlRefIdeal (m : (ℓ : Loc Cert.ProjMlRefIdeal.nD Cert.ProjMlRefIdeal.τ Cert.ProjMlRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3)
      ∧ r.2.mem ((c.tc : Thread Cert.Grouped.nD Cert.Grouped.τ).loc Cert.Grouped.main_arg4) = m ((c.tc : Thread Cert.Grouped.nD Cert.Grouped.τ).loc Cert.Grouped.main_arg4))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4))
      ∧ r.2.sem = fun _ => 0)

def quiescent_GroupedRefIdeal [hGroupedRefIdeal : Cert.GroupedRefIdeal.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1)
      ∧ r.2.mem ((c.tc : Thread Cert.GroupedRefIdeal.nD Cert.GroupedRefIdeal.τ).loc Cert.GroupedRefIdeal.main_arg2) = m ((c.tc : Thread Cert.GroupedRefIdeal.nD Cert.GroupedRefIdeal.τ).loc Cert.GroupedRefIdeal.main_arg2)
      ∧ r.2.mem ((c.tc : Thread Cert.GroupedRefIdeal.nD Cert.GroupedRefIdeal.τ).loc Cert.GroupedRefIdeal.main_arg3) = m ((c.tc : Thread Cert.GroupedRefIdeal.nD Cert.GroupedRefIdeal.τ).loc Cert.GroupedRefIdeal.main_arg3)
      ∧ r.2.mem ((c.tc : Thread Cert.GroupedRefIdeal.nD Cert.GroupedRefIdeal.τ).loc Cert.GroupedRefIdeal.main_arg4) = m ((c.tc : Thread Cert.GroupedRefIdeal.nD Cert.GroupedRefIdeal.τ).loc Cert.GroupedRefIdeal.main_arg4))
      ∧ r.2.sem = fun _ => 0)

def quiescent_ProjMl [hProjMl : Cert.ProjMl.Facts] : Prop :=
  ∀ (m : (ℓ : Loc Cert.ProjMl.nD Cert.ProjMl.τ Cert.ProjMl.sig) → Buf (Elt Bits) ℓ) (g : Dev Cert.ProjMl.nD → PrngReg), Pre_ProjMl m →
    θ_run (Cert.ProjMl.defs (F := Bits)) (onTc (τ := Cert.ProjMl.τ) (Cert.ProjMl.main (F := Bits))) ⟨m, fun _ => 0, g⟩ (fun r => (∀ c : Dev Cert.ProjMl.nD,
      r.2.mem ((c.tc : Thread Cert.ProjMl.nD Cert.ProjMl.τ).loc Cert.ProjMl.main_arg0) = m ((c.tc : Thread Cert.ProjMl.nD Cert.ProjMl.τ).loc Cert.ProjMl.main_arg0)
      ∧ r.2.mem ((c.tc : Thread Cert.ProjMl.nD Cert.ProjMl.τ).loc Cert.ProjMl.main_arg1) = m ((c.tc : Thread Cert.ProjMl.nD Cert.ProjMl.τ).loc Cert.ProjMl.main_arg1)
      ∧ r.2.mem ((c.tc : Thread Cert.ProjMl.nD Cert.ProjMl.τ).loc Cert.ProjMl.main_arg2) = m ((c.tc : Thread Cert.ProjMl.nD Cert.ProjMl.τ).loc Cert.ProjMl.main_arg2)
      ∧ r.2.mem ((c.tc : Thread Cert.ProjMl.nD Cert.ProjMl.τ).loc Cert.ProjMl.main_arg3) = m ((c.tc : Thread Cert.ProjMl.nD Cert.ProjMl.τ).loc Cert.ProjMl.main_arg3))
      ∧ r.2.sem = fun _ => 0)

def quiescent_ProjMlIdeal [hProjMlIdeal : Cert.ProjMlIdeal.Facts] : Prop :=
  ∀ (m : (ℓ : Loc Cert.ProjMlIdeal.nD Cert.ProjMlIdeal.τ Cert.ProjMlIdeal.sig) → Buf (Elt Ideal) ℓ) (g : Dev Cert.ProjMlIdeal.nD → PrngReg), Pre_ProjMlIdeal m →
    θ_run (Cert.ProjMlIdeal.defs (F := Ideal)) (onTc (τ := Cert.ProjMlIdeal.τ) (Cert.ProjMlIdeal.main (F := Ideal))) ⟨m, fun _ => 0, g⟩ (fun r => (∀ c : Dev Cert.ProjMlIdeal.nD,
      r.2.mem ((c.tc : Thread Cert.ProjMlIdeal.nD Cert.ProjMlIdeal.τ).loc Cert.ProjMlIdeal.main_arg0) = m ((c.tc : Thread Cert.ProjMlIdeal.nD Cert.ProjMlIdeal.τ).loc Cert.ProjMlIdeal.main_arg0)
      ∧ r.2.mem ((c.tc : Thread Cert.ProjMlIdeal.nD Cert.ProjMlIdeal.τ).loc Cert.ProjMlIdeal.main_arg1) = m ((c.tc : Thread Cert.ProjMlIdeal.nD Cert.ProjMlIdeal.τ).loc Cert.ProjMlIdeal.main_arg1)
      ∧ r.2.mem ((c.tc : Thread Cert.ProjMlIdeal.nD Cert.ProjMlIdeal.τ).loc Cert.ProjMlIdeal.main_arg2) = m ((c.tc : Thread Cert.ProjMlIdeal.nD Cert.ProjMlIdeal.τ).loc Cert.ProjMlIdeal.main_arg2)
      ∧ r.2.mem ((c.tc : Thread Cert.ProjMlIdeal.nD Cert.ProjMlIdeal.τ).loc Cert.ProjMlIdeal.main_arg3) = m ((c.tc : Thread Cert.ProjMlIdeal.nD Cert.ProjMlIdeal.τ).loc Cert.ProjMlIdeal.main_arg3))
      ∧ r.2.sem = fun _ => 0)

def quiescent_ProjMlRefIdeal [hProjMlRefIdeal : Cert.ProjMlRefIdeal.Facts] : Prop :=
  ∀ (m : (ℓ : Loc Cert.ProjMlRefIdeal.nD Cert.ProjMlRefIdeal.τ Cert.ProjMlRefIdeal.sig) → Buf (Elt Ideal) ℓ) (g : Dev Cert.ProjMlRefIdeal.nD → PrngReg), Pre_ProjMlRefIdeal m →
    θ_run (Cert.ProjMlRefIdeal.defs (F := Ideal)) (onTc (τ := Cert.ProjMlRefIdeal.τ) (Cert.ProjMlRefIdeal.main (F := Ideal))) ⟨m, fun _ => 0, g⟩ (fun r => (∀ c : Dev Cert.ProjMlRefIdeal.nD,
      r.2.mem ((c.tc : Thread Cert.ProjMlRefIdeal.nD Cert.ProjMlRefIdeal.τ).loc Cert.ProjMlRefIdeal.main_arg0) = m ((c.tc : Thread Cert.ProjMlRefIdeal.nD Cert.ProjMlRefIdeal.τ).loc Cert.ProjMlRefIdeal.main_arg0)
      ∧ r.2.mem ((c.tc : Thread Cert.ProjMlRefIdeal.nD Cert.ProjMlRefIdeal.τ).loc Cert.ProjMlRefIdeal.main_arg1) = m ((c.tc : Thread Cert.ProjMlRefIdeal.nD Cert.ProjMlRefIdeal.τ).loc Cert.ProjMlRefIdeal.main_arg1)
      ∧ r.2.mem ((c.tc : Thread Cert.ProjMlRefIdeal.nD Cert.ProjMlRefIdeal.τ).loc Cert.ProjMlRefIdeal.main_arg2) = m ((c.tc : Thread Cert.ProjMlRefIdeal.nD Cert.ProjMlRefIdeal.τ).loc Cert.ProjMlRefIdeal.main_arg2)
      ∧ r.2.mem ((c.tc : Thread Cert.ProjMlRefIdeal.nD Cert.ProjMlRefIdeal.τ).loc Cert.ProjMlRefIdeal.main_arg3) = m ((c.tc : Thread Cert.ProjMlRefIdeal.nD Cert.ProjMlRefIdeal.τ).loc Cert.ProjMlRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Grouped_GroupedIdeal : Prop :=
  True

def algebraic_GroupedIdeal_GroupedRefIdeal [hGroupedIdeal : Cert.GroupedIdeal.Facts] [hGroupedRefIdeal : Cert.GroupedRefIdeal.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedRefIdeal.nD Cert.GroupedRefIdeal.τ Cert.GroupedRefIdeal.sig) → Buf (Elt Ideal) ℓ) (g' : Dev Cert.GroupedRefIdeal.nD → PrngReg), Pre_GroupedIdeal m →
    (∀ c : Dev Cert.GroupedIdeal.nD,
      m' ((c.tc : Thread Cert.GroupedRefIdeal.nD Cert.GroupedRefIdeal.τ).loc Cert.GroupedRefIdeal.main_arg0) = m ((c.tc : Thread Cert.GroupedIdeal.nD Cert.GroupedIdeal.τ).loc Cert.GroupedIdeal.main_arg0)
      ∧ m' ((c.tc : Thread Cert.GroupedRefIdeal.nD Cert.GroupedRefIdeal.τ).loc Cert.GroupedRefIdeal.main_arg1) = m ((c.tc : Thread Cert.GroupedIdeal.nD Cert.GroupedIdeal.τ).loc Cert.GroupedIdeal.main_arg1)
      ∧ m' ((c.tc : Thread Cert.GroupedRefIdeal.nD Cert.GroupedRefIdeal.τ).loc Cert.GroupedRefIdeal.main_arg2) = m ((c.tc : Thread Cert.GroupedIdeal.nD Cert.GroupedIdeal.τ).loc Cert.GroupedIdeal.main_arg2)
      ∧ m' ((c.tc : Thread Cert.GroupedRefIdeal.nD Cert.GroupedRefIdeal.τ).loc Cert.GroupedRefIdeal.main_arg3) = m ((c.tc : Thread Cert.GroupedIdeal.nD Cert.GroupedIdeal.τ).loc Cert.GroupedIdeal.main_arg3)
      ∧ m' ((c.tc : Thread Cert.GroupedRefIdeal.nD Cert.GroupedRefIdeal.τ).loc Cert.GroupedRefIdeal.main_arg4) = m ((c.tc : Thread Cert.GroupedIdeal.nD Cert.GroupedIdeal.τ).loc Cert.GroupedIdeal.main_arg4)) →
    ∃ (v0 : (c : Dev Cert.GroupedIdeal.nD) → Buf (Elt Ideal) ((c.tc : Thread Cert.GroupedIdeal.nD Cert.GroupedIdeal.τ).loc Cert.GroupedIdeal.main_v20)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v20) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
          ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4))
      ∧ θ_run (Cert.GroupedRefIdeal.defs (F := Ideal)) (onTc (τ := Cert.GroupedRefIdeal.τ) (Cert.GroupedRefIdeal.main (F := Ideal))) ⟨m', fun _ => 0, g'⟩ (fun r => ∀ c : Dev Cert.GroupedRefIdeal.nD,
          r.2.mem ((c.tc : Thread Cert.GroupedRefIdeal.nD Cert.GroupedRefIdeal.τ).loc Cert.GroupedRefIdeal.main_v69) = v0 c
          ∧ r.2.mem ((c.tc : Thread Cert.GroupedRefIdeal.nD Cert.GroupedRefIdeal.τ).loc Cert.GroupedRefIdeal.main_arg0) = m' ((c.tc : Thread Cert.GroupedRefIdeal.nD Cert.GroupedRefIdeal.τ).loc Cert.GroupedRefIdeal.main_arg0)
          ∧ r.2.mem ((c.tc : Thread Cert.GroupedRefIdeal.nD Cert.GroupedRefIdeal.τ).loc Cert.GroupedRefIdeal.main_arg1) = m' ((c.tc : Thread Cert.GroupedRefIdeal.nD Cert.GroupedRefIdeal.τ).loc Cert.GroupedRefIdeal.main_arg1)
          ∧ r.2.mem ((c.tc : Thread Cert.GroupedRefIdeal.nD Cert.GroupedRefIdeal.τ).loc Cert.GroupedRefIdeal.main_arg2) = m' ((c.tc : Thread Cert.GroupedRefIdeal.nD Cert.GroupedRefIdeal.τ).loc Cert.GroupedRefIdeal.main_arg2)
          ∧ r.2.mem ((c.tc : Thread Cert.GroupedRefIdeal.nD Cert.GroupedRefIdeal.τ).loc Cert.GroupedRefIdeal.main_arg3) = m' ((c.tc : Thread Cert.GroupedRefIdeal.nD Cert.GroupedRefIdeal.τ).loc Cert.GroupedRefIdeal.main_arg3)
          ∧ r.2.mem ((c.tc : Thread Cert.GroupedRefIdeal.nD Cert.GroupedRefIdeal.τ).loc Cert.GroupedRefIdeal.main_arg4) = m' ((c.tc : Thread Cert.GroupedRefIdeal.nD Cert.GroupedRefIdeal.τ).loc Cert.GroupedRefIdeal.main_arg4))

def preserves_ProjMl_ProjMlIdeal : Prop :=
  True

def algebraic_ProjMlIdeal_ProjMlRefIdeal [hProjMlIdeal : Cert.ProjMlIdeal.Facts] [hProjMlRefIdeal : Cert.ProjMlRefIdeal.Facts] : Prop :=
  ∀ (m : (ℓ : Loc Cert.ProjMlIdeal.nD Cert.ProjMlIdeal.τ Cert.ProjMlIdeal.sig) → Buf (Elt Ideal) ℓ) (g : Dev Cert.ProjMlIdeal.nD → PrngReg)
    (m' : (ℓ : Loc Cert.ProjMlRefIdeal.nD Cert.ProjMlRefIdeal.τ Cert.ProjMlRefIdeal.sig) → Buf (Elt Ideal) ℓ) (g' : Dev Cert.ProjMlRefIdeal.nD → PrngReg), Pre_ProjMlIdeal m →
    (∀ c : Dev Cert.ProjMlIdeal.nD,
      m' ((c.tc : Thread Cert.ProjMlRefIdeal.nD Cert.ProjMlRefIdeal.τ).loc Cert.ProjMlRefIdeal.main_arg0) = m ((c.tc : Thread Cert.ProjMlIdeal.nD Cert.ProjMlIdeal.τ).loc Cert.ProjMlIdeal.main_arg0)
      ∧ m' ((c.tc : Thread Cert.ProjMlRefIdeal.nD Cert.ProjMlRefIdeal.τ).loc Cert.ProjMlRefIdeal.main_arg1) = m ((c.tc : Thread Cert.ProjMlIdeal.nD Cert.ProjMlIdeal.τ).loc Cert.ProjMlIdeal.main_arg1)
      ∧ m' ((c.tc : Thread Cert.ProjMlRefIdeal.nD Cert.ProjMlRefIdeal.τ).loc Cert.ProjMlRefIdeal.main_arg2) = m ((c.tc : Thread Cert.ProjMlIdeal.nD Cert.ProjMlIdeal.τ).loc Cert.ProjMlIdeal.main_arg2)
      ∧ m' ((c.tc : Thread Cert.ProjMlRefIdeal.nD Cert.ProjMlRefIdeal.τ).loc Cert.ProjMlRefIdeal.main_arg3) = m ((c.tc : Thread Cert.ProjMlIdeal.nD Cert.ProjMlIdeal.τ).loc Cert.ProjMlIdeal.main_arg3)) →
    ∃ (v0 : (c : Dev Cert.ProjMlIdeal.nD) → Buf (Elt Ideal) ((c.tc : Thread Cert.ProjMlIdeal.nD Cert.ProjMlIdeal.τ).loc Cert.ProjMlIdeal.main_v2)),
      θ_run (Cert.ProjMlIdeal.defs (F := Ideal)) (onTc (τ := Cert.ProjMlIdeal.τ) (Cert.ProjMlIdeal.main (F := Ideal))) ⟨m, fun _ => 0, g⟩ (fun r => ∀ c : Dev Cert.ProjMlIdeal.nD,
          r.2.mem ((c.tc : Thread Cert.ProjMlIdeal.nD Cert.ProjMlIdeal.τ).loc Cert.ProjMlIdeal.main_v2) = v0 c
          ∧ r.2.mem ((c.tc : Thread Cert.ProjMlIdeal.nD Cert.ProjMlIdeal.τ).loc Cert.ProjMlIdeal.main_arg0) = m ((c.tc : Thread Cert.ProjMlIdeal.nD Cert.ProjMlIdeal.τ).loc Cert.ProjMlIdeal.main_arg0)
          ∧ r.2.mem ((c.tc : Thread Cert.ProjMlIdeal.nD Cert.ProjMlIdeal.τ).loc Cert.ProjMlIdeal.main_arg1) = m ((c.tc : Thread Cert.ProjMlIdeal.nD Cert.ProjMlIdeal.τ).loc Cert.ProjMlIdeal.main_arg1)
          ∧ r.2.mem ((c.tc : Thread Cert.ProjMlIdeal.nD Cert.ProjMlIdeal.τ).loc Cert.ProjMlIdeal.main_arg2) = m ((c.tc : Thread Cert.ProjMlIdeal.nD Cert.ProjMlIdeal.τ).loc Cert.ProjMlIdeal.main_arg2)
          ∧ r.2.mem ((c.tc : Thread Cert.ProjMlIdeal.nD Cert.ProjMlIdeal.τ).loc Cert.ProjMlIdeal.main_arg3) = m ((c.tc : Thread Cert.ProjMlIdeal.nD Cert.ProjMlIdeal.τ).loc Cert.ProjMlIdeal.main_arg3))
      ∧ θ_run (Cert.ProjMlRefIdeal.defs (F := Ideal)) (onTc (τ := Cert.ProjMlRefIdeal.τ) (Cert.ProjMlRefIdeal.main (F := Ideal))) ⟨m', fun _ => 0, g'⟩ (fun r => ∀ c : Dev Cert.ProjMlRefIdeal.nD,
          r.2.mem ((c.tc : Thread Cert.ProjMlRefIdeal.nD Cert.ProjMlRefIdeal.τ).loc Cert.ProjMlRefIdeal.main_v15) = v0 c
          ∧ r.2.mem ((c.tc : Thread Cert.ProjMlRefIdeal.nD Cert.ProjMlRefIdeal.τ).loc Cert.ProjMlRefIdeal.main_arg0) = m' ((c.tc : Thread Cert.ProjMlRefIdeal.nD Cert.ProjMlRefIdeal.τ).loc Cert.ProjMlRefIdeal.main_arg0)
          ∧ r.2.mem ((c.tc : Thread Cert.ProjMlRefIdeal.nD Cert.ProjMlRefIdeal.τ).loc Cert.ProjMlRefIdeal.main_arg1) = m' ((c.tc : Thread Cert.ProjMlRefIdeal.nD Cert.ProjMlRefIdeal.τ).loc Cert.ProjMlRefIdeal.main_arg1)
          ∧ r.2.mem ((c.tc : Thread Cert.ProjMlRefIdeal.nD Cert.ProjMlRefIdeal.τ).loc Cert.ProjMlRefIdeal.main_arg2) = m' ((c.tc : Thread Cert.ProjMlRefIdeal.nD Cert.ProjMlRefIdeal.τ).loc Cert.ProjMlRefIdeal.main_arg2)
          ∧ r.2.mem ((c.tc : Thread Cert.ProjMlRefIdeal.nD Cert.ProjMlRefIdeal.τ).loc Cert.ProjMlRefIdeal.main_arg3) = m' ((c.tc : Thread Cert.ProjMlRefIdeal.nD Cert.ProjMlRefIdeal.τ).loc Cert.ProjMlRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v35_0)) (v1 : (c : Dev Cert.RopeIdeal.nD) → Buf (Elt Ideal) ((c.tc : Thread Cert.RopeIdeal.nD Cert.RopeIdeal.τ).loc Cert.RopeIdeal.main_v35_1)) (v2 : (c : Dev Cert.RopeIdeal.nD) → Buf (Elt Ideal) ((c.tc : Thread Cert.RopeIdeal.nD Cert.RopeIdeal.τ).loc Cert.RopeIdeal.main_v35_2)) (v3 : (c : Dev Cert.RopeIdeal.nD) → Buf (Elt Ideal) ((c.tc : Thread Cert.RopeIdeal.nD Cert.RopeIdeal.τ).loc Cert.RopeIdeal.main_v35_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v35_0) = v0 c
          ∧ r.2.mem ((c.tc : Thread Cert.RopeIdeal.nD Cert.RopeIdeal.τ).loc Cert.RopeIdeal.main_v35_1) = v1 c
          ∧ r.2.mem ((c.tc : Thread Cert.RopeIdeal.nD Cert.RopeIdeal.τ).loc Cert.RopeIdeal.main_v35_2) = v2 c
          ∧ r.2.mem ((c.tc : Thread Cert.RopeIdeal.nD Cert.RopeIdeal.τ).loc Cert.RopeIdeal.main_v35_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v105) = v0 c
          ∧ r.2.mem ((c.tc : Thread Cert.RopeRefIdeal.nD Cert.RopeRefIdeal.τ).loc Cert.RopeRefIdeal.main_v109) = v1 c
          ∧ r.2.mem ((c.tc : Thread Cert.RopeRefIdeal.nD Cert.RopeRefIdeal.τ).loc Cert.RopeRefIdeal.main_v112) = v2 c
          ∧ r.2.mem ((c.tc : Thread Cert.RopeRefIdeal.nD Cert.RopeRefIdeal.τ).loc Cert.RopeRefIdeal.main_v115) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_Attn_AttnIdeal : Prop :=
  True

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v4_0)) (v1 : (c : Dev Cert.RouterIdeal.nD) → Buf (Elt Ideal) ((c.tc : Thread Cert.RouterIdeal.nD Cert.RouterIdeal.τ).loc Cert.RouterIdeal.main_v4_1)) (v2 : (c : Dev Cert.RouterIdeal.nD) → Buf (Elt Ideal) ((c.tc : Thread Cert.RouterIdeal.nD Cert.RouterIdeal.τ).loc Cert.RouterIdeal.main_v4_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v4_0) = v0 c
          ∧ r.2.mem ((c.tc : Thread Cert.RouterIdeal.nD Cert.RouterIdeal.τ).loc Cert.RouterIdeal.main_v4_1) = v1 c
          ∧ r.2.mem ((c.tc : Thread Cert.RouterIdeal.nD Cert.RouterIdeal.τ).loc Cert.RouterIdeal.main_v4_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v12) = v0 c
          ∧ r.2.mem ((c.tc : Thread Cert.RouterRefIdeal.nD Cert.RouterRefIdeal.τ).loc Cert.RouterRefIdeal.main_v62) = v1 c
          ∧ r.2.mem ((c.tc : Thread Cert.RouterRefIdeal.nD Cert.RouterRefIdeal.τ).loc Cert.RouterRefIdeal.main_v64) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hGrouped : Cert.Grouped.Facts) (hGroupedIdeal : Cert.GroupedIdeal.Facts) (hGroupedRefIdeal : Cert.GroupedRefIdeal.Facts) (hProjMl : Cert.ProjMl.Facts) (hProjMlIdeal : Cert.ProjMlIdeal.Facts) (hProjMlRefIdeal : Cert.ProjMlRefIdeal.Facts) (hRope : Cert.Rope.Facts) (hRopeIdeal : Cert.RopeIdeal.Facts) (hRopeRefIdeal : Cert.RopeRefIdeal.Facts) (hAttn : Cert.Attn.Facts) (hAttnIdeal : Cert.AttnIdeal.Facts) (hRouter : Cert.Router.Facts) (hRouterIdeal : Cert.RouterIdeal.Facts) (hRouterRefIdeal : Cert.RouterRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Grouped (hGrouped := hGrouped)
    ∧ quiescent_GroupedIdeal (hGroupedIdeal := hGroupedIdeal)
    ∧ quiescent_GroupedRefIdeal (hGroupedRefIdeal := hGroupedRefIdeal)
    ∧ quiescent_ProjMl (hProjMl := hProjMl)
    ∧ quiescent_ProjMlIdeal (hProjMlIdeal := hProjMlIdeal)
    ∧ quiescent_ProjMlRefIdeal (hProjMlRefIdeal := hProjMlRefIdeal)
    ∧ quiescent_Rope (hRope := hRope)
    ∧ quiescent_RopeIdeal (hRopeIdeal := hRopeIdeal)
    ∧ quiescent_RopeRefIdeal (hRopeRefIdeal := hRopeRefIdeal)
    ∧ quiescent_Attn (hAttn := hAttn)
    ∧ quiescent_AttnIdeal (hAttnIdeal := hAttnIdeal)
    ∧ quiescent_Router (hRouter := hRouter)
    ∧ quiescent_RouterIdeal (hRouterIdeal := hRouterIdeal)
    ∧ quiescent_RouterRefIdeal (hRouterRefIdeal := hRouterRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Grouped_GroupedIdeal
    ∧ algebraic_GroupedIdeal_GroupedRefIdeal (hGroupedIdeal := hGroupedIdeal) (hGroupedRefIdeal := hGroupedRefIdeal)
    ∧ preserves_ProjMl_ProjMlIdeal
    ∧ algebraic_ProjMlIdeal_ProjMlRefIdeal (hProjMlIdeal := hProjMlIdeal) (hProjMlRefIdeal := hProjMlRefIdeal)
    ∧ preserves_Rope_RopeIdeal
    ∧ algebraic_RopeIdeal_RopeRefIdeal (hRopeIdeal := hRopeIdeal) (hRopeRefIdeal := hRopeRefIdeal)
    ∧ preserves_Attn_AttnIdeal
    ∧ preserves_Router_RouterIdeal
    ∧ algebraic_RouterIdeal_RouterRefIdeal (hRouterIdeal := hRouterIdeal) (hRouterRefIdeal := hRouterRefIdeal)
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S1024x3072 : Shape := ⟨2, ![1024, 3072]⟩
abbrev S1x3072 : Shape := ⟨2, ![1, 3072]⟩
abbrev S16384x512 : Shape := ⟨2, ![16384, 512]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x3072, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024x3072, .bf16⟩
  | .hbm, ⟨12, _⟩ => ⟨S512x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x1024 : Shape := ⟨2, ![16384, 1024]⟩
abbrev S1024 : Shape := ⟨1, ![1024]⟩
abbrev S1024x3072 : Shape := ⟨2, ![1024, 3072]⟩
abbrev S1x3072 : Shape := ⟨2, ![1, 3072]⟩
abbrev S16384x512 : Shape := ⟨2, ![16384, 512]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x3072, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S_, .f32⟩
  | .hbm, ⟨33, _⟩ => ⟨S16384x3072, .f32⟩
  | .hbm, ⟨34, _⟩ => ⟨S16384x3072, .f32⟩
  | .hbm, ⟨35, _⟩ => ⟨S_, .f32⟩
  | .hbm, ⟨36, _⟩ => ⟨S16384x3072, .f32⟩
  | .hbm, ⟨37, _⟩ => ⟨S16384x3072, .f32⟩
  | .hbm, ⟨38, _⟩ => ⟨S16384x3x1024, .f32⟩
  | .hbm, ⟨39, _⟩ => ⟨S16384x1x1024, .f32⟩
  | .hbm, ⟨40, _⟩ => ⟨S16384x1024, .f32⟩
  | .hbm, ⟨41, _⟩ => ⟨S16384x512, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x512, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1x1024, .f32⟩
  | .hbm, ⟨51, _⟩ => ⟨S16384x1024, .f32⟩
  | .hbm, ⟨52, _⟩ => ⟨S16384x512, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x1664 : Shape := ⟨2, ![1024, 1664]⟩
abbrev S1x1664 : Shape := ⟨2, ![1, 1664]⟩
abbrev S1x1024 : Shape := ⟨2, ![1, 1024]⟩
abbrev S16384x1664 : Shape := ⟨2, ![16384, 1664]⟩
abbrev S512x1024 : Shape := ⟨2, ![512, 1024]⟩
abbrev S512x1664 : Shape := ⟨2, ![512, 1664]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1664, .f32⟩
  | .hbm, ⟨3, _⟩ => ⟨S1x1664, .f32⟩
  | .hbm, ⟨4, _⟩ => ⟨S1024x1664, .bf16⟩
  | .hbm, ⟨5, _⟩ => ⟨S1x1024, .f32⟩
  | .hbm, ⟨6, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S1x1664, .f32⟩
  | .local _ .vmem, ⟨5, _⟩ => ⟨S512x1664, .f32⟩
  | .local _ .vmem, ⟨6, _⟩ => ⟨S512x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjIdeal.lean ====
abbrev S16384x1024 : Shape := ⟨2, ![16384, 1024]⟩
abbrev S1024 : Shape := ⟨1, ![1024]⟩
abbrev S1024x1664 : Shape := ⟨2, ![1024, 1664]⟩
abbrev S1x1664 : Shape := ⟨2, ![1, 1664]⟩
abbrev S1x1024 : Shape := ⟨2, ![1, 1024]⟩
abbrev S16384x1664 : Shape := ⟨2, ![16384, 1664]⟩
abbrev S512x1024 : Shape := ⟨2, ![512, 1024]⟩
abbrev S512x1664 : Shape := ⟨2, ![512, 1664]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1664, .f32⟩
  | .hbm, ⟨3, _⟩ => ⟨S1x1664, .f32⟩
  | .hbm, ⟨4, _⟩ => ⟨S1024x1664, .bf16⟩
  | .hbm, ⟨5, _⟩ => ⟨S1x1024, .f32⟩
  | .hbm, ⟨6, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S1x1664, .f32⟩
  | .local _ .vmem, ⟨5, _⟩ => ⟨S512x1664, .f32⟩
  | .local _ .vmem, ⟨6, _⟩ => ⟨S512x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S16384x1024 : Shape := ⟨2, ![16384, 1024]⟩
abbrev S1024 : Shape := ⟨1, ![1024]⟩
abbrev S1024x1664 : Shape := ⟨2, ![1024, 1664]⟩
abbrev S1x1664 : Shape := ⟨2, ![1, 1664]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1664 : Shape := ⟨2, ![16384, 1664]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1664, .f32⟩
  | .hbm, ⟨3, _⟩ => ⟨S1x1664, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1664, .f32⟩
  | .hbm, ⟨21, _⟩ => ⟨S16384x1664, .f32⟩
  | .hbm, ⟨22, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Grouped.lean ====
abbrev S36864x1024 : Shape := ⟨2, ![36864, 1024]⟩
abbrev S8 : Shape := ⟨1, ![8]⟩
abbrev S8x1024x2816 : Shape := ⟨3, ![8, 1024, 2816]⟩
abbrev S8x2816x1024 : Shape := ⟨3, ![8, 2816, 1024]⟩
abbrev S72 : Shape := ⟨1, ![72]⟩
abbrev S_ : Shape := ⟨0, ![]⟩
abbrev S1 : Shape := ⟨1, ![1]⟩
abbrev S72x1 : Shape := ⟨2, ![72, 1]⟩
abbrev S1x8 : Shape := ⟨2, ![1, 8]⟩
abbrev S72x8 : Shape := ⟨2, ![72, 8]⟩
abbrev S512x1024 : Shape := ⟨2, ![512, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 27
  | .vmem => 11
  | .smem => 2
  | _ => 0

abbrev bufTy : (tb : Table) → Fin (tcTables nBuf tb) → BufTy
  | .hbm, ⟨0, _⟩ => ⟨S36864x1024, .f32⟩
  | .hbm, ⟨1, _⟩ => ⟨S8, .i32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S72, .i32⟩
  | .hbm, ⟨6, _⟩ => ⟨S_, .i32⟩
  | .hbm, ⟨7, _⟩ => ⟨S72, .i32⟩
  | .hbm, ⟨8, _⟩ => ⟨S72, .i32⟩
  | .hbm, ⟨9, _⟩ => ⟨S1, .i32⟩
  | .hbm, ⟨10, _⟩ => ⟨S_, .i32⟩
  | .hbm, ⟨11, _⟩ => ⟨S72, .i32⟩
  | .hbm, ⟨12, _⟩ => ⟨S72, .i1⟩
  | .hbm, ⟨13, _⟩ => ⟨S72x1, .i32⟩
  | .hbm, ⟨14, _⟩ => ⟨S1x8, .i32⟩
  | .hbm, ⟨15, _⟩ => ⟨S72x8, .i32⟩
  | .hbm, ⟨16, _⟩ => ⟨S72x8, .i32⟩
  | .hbm, ⟨17, _⟩ => ⟨S72x8, .i1⟩
  | .hbm, ⟨18, _⟩ => ⟨S72x8, .i32⟩
  | .hbm, ⟨19, _⟩ => ⟨S_, .i32⟩
  | .hbm, ⟨20, _⟩ => ⟨S72, .i32⟩
  | .hbm, ⟨21, _⟩ => ⟨S_, .i32⟩
  | .hbm, ⟨22, _⟩ => ⟨S72, .i32⟩
  | .hbm, ⟨23, _⟩ => ⟨S8x1024x2816, .bf16⟩
  | .hbm, ⟨24, _⟩ => ⟨S8x1024x2816, .bf16⟩
  | .hbm, ⟨25, _⟩ => ⟨S8x2816x1024, .bf16⟩
  | .hbm, ⟨26, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S72, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v16 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_v16.idx, main_v7.idx], fun | 0 => main_v16.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GroupedRefIdeal.lean ====
abbrev S36864x1024 : Shape := ⟨2, ![36864, 1024]⟩
abbrev S8 : Shape := ⟨1, ![8]⟩
abbrev S8x1024x2816 : Shape := ⟨3, ![8, 1024, 2816]⟩
abbrev S8x2816x1024 : Shape := ⟨3, ![8, 2816, 1024]⟩
abbrev S72 : Shape := ⟨1, ![72]⟩
abbrev S_ : Shape := ⟨0, ![]⟩
abbrev S1x72 : Shape := ⟨2, ![1, 72]⟩
abbrev S8x1 : Shape := ⟨2, ![8, 1]⟩
abbrev S8x72 : Shape := ⟨2, ![8, 72]⟩
abbrev S72x512x1024 : Shape := ⟨3, ![72, 512, 1024]⟩
abbrev S72x1 : Shape := ⟨2, ![72, 1]⟩
abbrev S72x3 : Shape := ⟨2, ![72, 3]⟩
abbrev S72x1x1024x2816 : Shape := ⟨4, ![72, 1, 1024, 2816]⟩
abbrev S72x1024x2816 : Shape := ⟨3, ![72, 1024, 2816]⟩
abbrev S72x1x2816x1024 : Shape := ⟨4, ![72, 1, 2816, 1024]⟩
abbrev S72x2816x1024 : Shape := ⟨3, ![72, 2816, 1024]⟩
abbrev S72x512x2816 : Shape := ⟨3, ![72, 512, 2816]⟩
abbrev S1 : Shape := ⟨1, ![1]⟩
abbrev S72x1x1 : Shape := ⟨3, ![72, 1, 1]⟩

abbrev nBuf : Space → Nat
  | .hbm => 132
  | .vmem => 0
  | .smem => 0
  | _ => 0

abbrev hbmTy0_0 (i : Nat) : BufTy := match i % 128 with
  | 0 => ⟨S36864x1024, .f32⟩
  | 1 => ⟨S8, .i32⟩
  | 2 => ⟨S8x1024x2816, .f32⟩
  | 3 => ⟨S8x1024x2816, .f32⟩
  | 4 => ⟨S8x2816x1024, .f32⟩
  | 5 => ⟨S72, .i32⟩
  | 6 => ⟨S_, .i32⟩
  | 7 => ⟨S72, .i32⟩
  | 8 => ⟨S72, .i32⟩
  | 9 => ⟨S1x72, .i32⟩
  | 10 => ⟨S8x1, .i32⟩
  | 11 => ⟨S8x72, .i32⟩
  | 12 => ⟨S8x72, .i32⟩
  | 13 => ⟨S8x72, .i1⟩
  | 14 => ⟨S8x72, .i32⟩
  | 15 => ⟨S_, .i32⟩
  | 16 => ⟨S72, .i32⟩
  | 17 => ⟨S_, .i32⟩
  | 18 => ⟨S72, .i32⟩
  | 19 => ⟨S72, .i32⟩
  | 20 => ⟨S72x512x1024, .f32⟩
  | 21 => ⟨S_, .i32⟩
  | 22 => ⟨S72, .i32⟩
  | 23 => ⟨S72, .i1⟩
  | 24 => ⟨S_, .i32⟩
  | 25 => ⟨S72, .i32⟩
  | 26 => ⟨S72, .i32⟩
  | 27 => ⟨S72, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S72x1, .i32⟩
  | 45 => ⟨S72x1, .i32⟩
  | 46 => ⟨S72x1, .i32⟩
  | 47 => ⟨S72x3, .i32⟩
  | 48 => ⟨S72x1x1024x2816, .f32⟩
  | 49 => ⟨S72x1024x2816, .f32⟩
  | 50 => ⟨S_, .i32⟩
  | 51 => ⟨S72, .i32⟩
  | 52 => ⟨S72, .i1⟩
  | 53 => ⟨S_, .i32⟩
  | 54 => ⟨S72, .i32⟩
  | 55 => ⟨S72, .i32⟩
  | 56 => ⟨S72, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S72x1, .i32⟩
  | 74 => ⟨S72x1, .i32⟩
  | 75 => ⟨S72x1, .i32⟩
  | 76 => ⟨S72x3, .i32⟩
  | 77 => ⟨S72x1x1024x2816, .f32⟩
  | 78 => ⟨S72x1024x2816, .f32⟩
  | 79 => ⟨S_, .i32⟩
  | 80 => ⟨S72, .i32⟩
  | 81 => ⟨S72, .i1⟩
  | 82 => ⟨S_, .i32⟩
  | 83 => ⟨S72, .i32⟩
  | 84 => ⟨S72, .i32⟩
  | 85 => ⟨S72, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S72x1, .i32⟩
  | 103 => ⟨S72x1, .i32⟩
  | 104 => ⟨S72x1, .i32⟩
  | 105 => ⟨S72x3, .i32⟩
  | 106 => ⟨S72x1x2816x1024, .f32⟩
  | 107 => ⟨S72x2816x1024, .f32⟩
  | 108 => ⟨S72x512x2816, .f32⟩
  | 109 => ⟨S72x512x2816, .f32⟩
  | 110 => ⟨S72x512x2816, .f32⟩
  | 111 => ⟨S_, .f32⟩
  | 112 => ⟨S72x512x2816, .f32⟩
  | 113 => ⟨S72x512x2816, .f32⟩
  | 114 => ⟨S_, .f32⟩
  | 115 => ⟨S72x512x2816, .f32⟩
  | 116 => ⟨S72x512x2816, .f32⟩
  | 117 => ⟨S72x512x2816, .f32⟩
  | 118 => ⟨S72x512x2816, .f32⟩
  | 119 => ⟨S72x512x2816, .f32⟩
  | 120 => ⟨S72x512x1024, .f32⟩
  | 121 => ⟨S1, .i32⟩
  | 122 => ⟨S_, .i32⟩
  | 123 => ⟨S72, .i32⟩
  | 124 => ⟨S72, .i1⟩
  | 125 => ⟨S72x1x1, .i1⟩
  | 126 => ⟨S_, .f32⟩
  | 127 => ⟨S_, .f32⟩
  | _ => ⟨S36864x1024, .f32⟩

abbrev hbmTy0_1 (i : Nat) : BufTy := match i % 128 with
  | 0 => ⟨S72x512x1024, .i1⟩
  | 1 => ⟨S72x512x1024, .f32⟩
  | 2 => ⟨S72x512x1024, .f32⟩
  | 3 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_c : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_c_4 : Ref sig .tc := ⟨.hbm, 29, rfl⟩
abbrev main_v12 : Ref sig .tc := ⟨.hbm, 30, rfl⟩
abbrev main_c_5 : Ref sig .tc := ⟨.hbm, 31, rfl⟩
abbrev main_c_6 : Ref sig .tc := ⟨.hbm, 32, rfl⟩
abbrev main_v13 : Ref sig .tc := ⟨.hbm, 33, rfl⟩
abbrev main_c_7 : Ref sig .tc := ⟨.hbm, 34, rfl⟩
abbrev main_v14 : Ref sig .tc := ⟨.hbm, 35, rfl⟩
abbrev main_c_8 : Ref sig .tc := ⟨.hbm, 36, rfl⟩
abbrev main_c_9 : Ref sig .tc := ⟨.hbm, 37, rfl⟩
abbrev main_v15 : Ref sig .tc := ⟨.hbm, 38, rfl⟩
abbrev main_c_10 : Ref sig .tc := ⟨.hbm, 39, rfl⟩
abbrev main_c_11 : Ref sig .tc := ⟨.hbm, 40, rfl⟩
abbrev main_v16 : Ref sig .tc := ⟨.hbm, 41, rfl⟩
abbrev main_c_12 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_13 : Ref sig .tc := ⟨.hbm, 50, rfl⟩
abbrev main_v24 : Ref sig .tc := ⟨.hbm, 51, rfl⟩
abbrev main_v25 : Ref sig .tc := ⟨.hbm, 52, rfl⟩
abbrev main_c_14 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_15 : Ref sig .tc := ⟨.hbm, 57, rfl⟩
abbrev main_c_16 : Ref sig .tc := ⟨.hbm, 58, rfl⟩
abbrev main_v29 : Ref sig .tc := ⟨.hbm, 59, rfl⟩
abbrev main_c_17 : Ref sig .tc := ⟨.hbm, 60, rfl⟩
abbrev main_c_18 : Ref sig .tc := ⟨.hbm, 61, rfl⟩
abbrev main_v30 : Ref sig .tc := ⟨.hbm, 62, rfl⟩
abbrev main_c_19 : Ref sig .tc := ⟨.hbm, 63, rfl⟩
abbrev main_v31 : Ref sig .tc := ⟨.hbm, 64, rfl⟩
abbrev main_c_20 : Ref sig .tc := ⟨.hbm, 65, rfl⟩
abbrev main_c_21 : Ref sig .tc := ⟨.hbm, 66, rfl⟩
abbrev main_v32 : Ref sig .tc := ⟨.hbm, 67, rfl⟩
abbrev main_c_22 : Ref sig .tc := ⟨.hbm, 68, rfl⟩
abbrev main_c_23 : Ref sig .tc := ⟨.hbm, 69, rfl⟩
abbrev main_v33 : Ref sig .tc := ⟨.hbm, 70, rfl⟩
abbrev main_c_24 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_25 : Ref sig .tc := ⟨.hbm, 79, rfl⟩
abbrev main_v41 : Ref sig .tc := ⟨.hbm, 80, rfl⟩
abbrev main_v42 : Ref sig .tc := ⟨.hbm, 81, rfl⟩
abbrev main_c_26 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c_27 : Ref sig .tc := ⟨.hbm, 86, rfl⟩
abbrev main_c_28 : Ref sig .tc := ⟨.hbm, 87, rfl⟩
abbrev main_v46 : Ref sig .tc := ⟨.hbm, 88, rfl⟩
abbrev main_c_29 : Ref sig .tc := ⟨.hbm, 89, rfl⟩
abbrev main_c_30 : Ref sig .tc := ⟨.hbm, 90, rfl⟩
abbrev main_v47 : Ref sig .tc := ⟨.hbm, 91, rfl⟩
abbrev main_c_31 : Ref sig .tc := ⟨.hbm, 92, rfl⟩
abbrev main_v48 : Ref sig .tc := ⟨.hbm, 93, rfl⟩
abbrev main_c_32 : Ref sig .tc := ⟨.hbm, 94, rfl⟩
abbrev main_c_33 : Ref sig .tc := ⟨.hbm, 95, rfl⟩
abbrev main_v49 : Ref sig .tc := ⟨.hbm, 96, rfl⟩
abbrev main_c_34 : Ref sig .tc := ⟨.hbm, 97, rfl⟩
abbrev main_c_35 : Ref sig .tc := ⟨.hbm, 98, rfl⟩
abbrev main_v50 : Ref sig .tc := ⟨.hbm, 99, rfl⟩
abbrev main_c_36 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v68 : Ref sig .tc := ⟨.hbm, 130, rfl⟩
abbrev main_v69 : Ref sig .tc := ⟨.hbm, 131, rfl⟩

abbrev nD : Nat := 1
abbrev τ : Topo := Topo.v7x

variable {F : FTy → Type} [FloatOps F]
-- ==== ProjMl.lean ====
abbrev S16384x1024 : Shape := ⟨2, ![16384, 1024]⟩
abbrev S1024 : Shape := ⟨1, ![1024]⟩
abbrev S1024x2176 : Shape := ⟨2, ![1024, 2176]⟩
abbrev S1x2176 : Shape := ⟨2, ![1, 2176]⟩
abbrev S1x1024 : Shape := ⟨2, ![1, 1024]⟩
abbrev S16384x2176 : Shape := ⟨2, ![16384, 2176]⟩
abbrev S512x1024 : Shape := ⟨2, ![512, 1024]⟩
abbrev S512x2176 : Shape := ⟨2, ![512, 2176]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2176, .f32⟩
  | .hbm, ⟨3, _⟩ => ⟨S1x2176, .f32⟩
  | .hbm, ⟨4, _⟩ => ⟨S1024x2176, .bf16⟩
  | .hbm, ⟨5, _⟩ => ⟨S1x1024, .f32⟩
  | .hbm, ⟨6, _⟩ => ⟨S16384x2176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x2176, .f32⟩
  | .local _ .vmem, ⟨5, _⟩ => ⟨S512x2176, .f32⟩
  | .local _ .vmem, ⟨6, _⟩ => ⟨S512x2176, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjMlRefIdeal.lean ====
abbrev S16384x1024 : Shape := ⟨2, ![16384, 1024]⟩
abbrev S1024 : Shape := ⟨1, ![1024]⟩
abbrev S1024x2176 : Shape := ⟨2, ![1024, 2176]⟩
abbrev S1x2176 : Shape := ⟨2, ![1, 2176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2176 : Shape := ⟨2, ![16384, 2176]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2176, .f32⟩
  | .hbm, ⟨3, _⟩ => ⟨S1x2176, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2176, .f32⟩
  | .hbm, ⟨21, _⟩ => ⟨S16384x2176, .f32⟩
  | .hbm, ⟨22, _⟩ => ⟨S16384x2176, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Rope.lean ====
abbrev S16384x1024 : Shape := ⟨2, ![16384, 1024]⟩
abbrev S1024 : Shape := ⟨1, ![1024]⟩
abbrev S1024x1536 : Shape := ⟨2, ![1024, 1536]⟩
abbrev S1x1536 : Shape := ⟨2, ![1, 1536]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S16384x512 : Shape := ⟨2, ![16384, 512]⟩
abbrev S64x1x512 : Shape := ⟨3, ![64, 1, 512]⟩
abbrev S512x1024 : Shape := ⟨2, ![512, 1024]⟩
abbrev S512x128 : Shape := ⟨2, ![512, 128]⟩
abbrev S512x512 : Shape := ⟨2, ![512, 512]⟩
abbrev S2x1x512 : Shape := ⟨3, ![2, 1, 512]⟩
abbrev S512 : Shape := ⟨1, ![512]⟩
abbrev S512x1 : Shape := ⟨2, ![512, 1]⟩
abbrev S512x1536 : Shape := ⟨2, ![512, 1536]⟩
abbrev S2x256x512 : Shape := ⟨3, ![2, 256, 512]⟩
abbrev S2x512 : Shape := ⟨2, ![2, 512]⟩

abbrev nBuf : Space → Nat
  | .hbm => 49
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1x1536, .f32⟩
  | .hbm, ⟨4, _⟩ => ⟨S1024x1536, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192, .i32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x8, .f32⟩
  | .hbm, ⟨31, _⟩ => ⟨S8192x64, .f32⟩
  | .hbm, ⟨32, _⟩ => ⟨S8192x64, .f32⟩
  | .hbm, ⟨33, _⟩ => ⟨S8192x8, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S1x8192x1x64, .f32⟩
  | .hbm, ⟨39, _⟩ => ⟨S1x8192x2x64, .f32⟩
  | .hbm, ⟨40, _⟩ => ⟨S8192x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x1024, .f32⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S64x1x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x1536, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S2x1x512, .f32⟩
  | .local _ .vmem, ⟨18, _⟩ => ⟨S2x1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev main_v35_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RopeRefIdeal.lean ====
abbrev S16384x1024 : Shape := ⟨2, ![16384, 1024]⟩
abbrev S1024 : Shape := ⟨1, ![1024]⟩
abbrev S1024x1536 : Shape := ⟨2, ![1024, 1536]⟩
abbrev S1x1536 : Shape := ⟨2, ![1, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S2x8192x1536 : Shape := ⟨3, ![2, 8192, 1536]⟩
abbrev S8192 : Shape := ⟨1, ![8192]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S2x8x8192x16 : Shape := ⟨4, ![2, 8, 8192, 16]⟩
abbrev S2x8x8192x8 : Shape := ⟨4, ![2, 8, 8192, 8]⟩
abbrev S1x1x8192x8 : Shape := ⟨4, ![1, 1, 8192, 8]⟩
abbrev S2x8x8192x48 : Shape := ⟨4, ![2, 8, 8192, 48]⟩
abbrev S2x8x32x256x64 : Shape := ⟨5, ![2, 8, 32, 256, 64]⟩
abbrev S2x8x32x64 : Shape := ⟨4, ![2, 8, 32, 64]⟩
abbrev S16384x512 : Shape := ⟨2, ![16384, 512]⟩
abbrev S2x32x8x64 : Shape := ⟨4, ![2, 32, 8, 64]⟩
abbrev S2x32x512 : Shape := ⟨3, ![2, 32, 512]⟩
abbrev S64x1x512 : Shape := ⟨3, ![64, 1, 512]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S1024, .f32⟩
  | 2 => ⟨S1024x1536, .f32⟩
  | 3 => ⟨S1x1536, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x1536, .f32⟩
  | 21 => ⟨S16384x1536, .f32⟩
  | 22 => ⟨S16384x1536, .f32⟩
  | 23 => ⟨S2x8192x1536, .f32⟩
  | 24 => ⟨S8192, .i32⟩
  | 25 => ⟨S2x8192x512, .f32⟩
  | 26 => ⟨S2x8192x8x64, .f32⟩
  | 27 => ⟨S2x8x8192x64, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8192, .f32⟩
  | 40 => ⟨S8192x1, .f32⟩
  | 41 => ⟨S1x8, .f32⟩
  | 42 => ⟨S8192x8, .f32⟩
  | 43 => ⟨S8192x8, .f32⟩
  | 44 => ⟨S8192x8, .f32⟩
  | 45 => ⟨S8192x8, .f32⟩
  | 46 => ⟨S8192x8, .f32⟩
  | 47 => ⟨S2x8x8192x16, .f32⟩
  | 48 => ⟨S2x8x8192x8, .f32⟩
  | 49 => ⟨S2x8x8192x8, .f32⟩
  | 50 => ⟨S1x1x8192x8, .f32⟩
  | 51 => ⟨S2x8x8192x8, .f32⟩
  | 52 => ⟨S2x8x8192x8, .f32⟩
  | 53 => ⟨S1x1x8192x8, .f32⟩
  | 54 => ⟨S2x8x8192x8, .f32⟩
  | 55 => ⟨S2x8x8192x8, .f32⟩
  | 56 => ⟨S2x8x8192x8, .f32⟩
  | 57 => ⟨S1x1x8192x8, .f32⟩
  | 58 => ⟨S2x8x8192x8, .f32⟩
  | 59 => ⟨S2x8x8192x8, .f32⟩
  | 60 => ⟨S1x1x8192x8, .f32⟩
  | 61 => ⟨S2x8x8192x8, .f32⟩
  | 62 => ⟨S2x8x8192x8, .f32⟩
  | 63 => ⟨S2x8x8192x8, .f32⟩
  | 64 => ⟨S2x8x8192x16, .f32⟩
  | 65 => ⟨S2x8x8192x48, .f32⟩
  | 66 => ⟨S2x8x8192x64, .f32⟩
  | 67 => ⟨S_, .f32⟩
  | 68 => ⟨S2x8x8192x64, .f32⟩
  | 69 => ⟨S2x8x8192x64, .f32⟩
  | 70 => ⟨S2x8192x512, .f32⟩
  | 71 => ⟨S2x8192x8x64, .f32⟩
  | 72 => ⟨S2x8x8192x64, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8192, .f32⟩
  | 85 => ⟨S8192x1, .f32⟩
  | 86 => ⟨S1x8, .f32⟩
  | 87 => ⟨S8192x8, .f32⟩
  | 88 => ⟨S8192x8, .f32⟩
  | 89 => ⟨S8192x8, .f32⟩
  | 90 => ⟨S8192x8, .f32⟩
  | 91 => ⟨S8192x8, .f32⟩
  | 92 => ⟨S2x8x8192x16, .f32⟩
  | 93 => ⟨S2x8x8192x8, .f32⟩
  | 94 => ⟨S2x8x8192x8, .f32⟩
  | 95 => ⟨S1x1x8192x8, .f32⟩
  | 96 => ⟨S2x8x8192x8, .f32⟩
  | 97 => ⟨S2x8x8192x8, .f32⟩
  | 98 => ⟨S1x1x8192x8, .f32⟩
  | 99 => ⟨S2x8x8192x8, .f32⟩
  | 100 => ⟨S2x8x8192x8, .f32⟩
  | 101 => ⟨S2x8x8192x8, .f32⟩
  | 102 => ⟨S1x1x8192x8, .f32⟩
  | 103 => ⟨S2x8x8192x8, .f32⟩
  | 104 => ⟨S2x8x8192x8, .f32⟩
  | 105 => ⟨S1x1x8192x8, .f32⟩
  | 106 => ⟨S2x8x8192x8, .f32⟩
  | 107 => ⟨S2x8x8192x8, .f32⟩
  | 108 => ⟨S2x8x8192x8, .f32⟩
  | 109 => ⟨S2x8x8192x16, .f32⟩
  | 110 => ⟨S2x8x8192x48, .f32⟩
  | 111 => ⟨S2x8x8192x64, .f32⟩
  | 112 => ⟨S2x8x32x256x64, .f32⟩
  | 113 => ⟨S_, .f32⟩
  | 114 => ⟨S2x8x32x64, .f32⟩
  | 115 => ⟨S_, .f32⟩
  | 116 => ⟨S2x8x32x64, .f32⟩
  | 117 => ⟨S2x8x32x64, .f32⟩
  | 118 => ⟨S2x8192x8x64, .f32⟩
  | 119 => ⟨S2x8192x512, .f32⟩
  | 120 => ⟨S16384x512, .f32⟩
  | 121 => ⟨S16384x512, .bf16⟩
  | 122 => ⟨S2x8192x8x64, .f32⟩
  | 123 => ⟨S2x8192x512, .f32⟩
  | 124 => ⟨S16384x512, .f32⟩
  | 125 => ⟨S16384x512, .bf16⟩
  | 126 => ⟨S2x8192x512, .f32⟩
  | 127 => ⟨S16384x512, .f32⟩
  | _ => ⟨S16384x1024, .f32⟩

abbrev hbmTy0_1 (i : Nat) : BufTy := match i % 128 with
  | 0 => ⟨S16384x512, .bf16⟩
  | 1 => ⟨S2x32x8x64, .f32⟩
  | 2 => ⟨S2x32x512, .f32⟩
  | 3 => ⟨S64x1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_9 : Ref sig .tc := ⟨.hbm, 113, rfl⟩
abbrev main_v99 : Ref sig .tc := ⟨.hbm, 114, rfl⟩
abbrev main_cst_10 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩

abbrev nD : Nat := 1
abbrev τ : Topo := Topo.v7x

variable {F : FTy → Type} [FloatOps F]
-- ==== Attn.lean ====
abbrev S2x8192x512 : Shape := ⟨3, ![2, 8192, 512]⟩
abbrev S2x32x512 : Shape := ⟨3, ![2, 32, 512]⟩
abbrev S1x128x128 : Shape := ⟨3, ![1, 128, 128]⟩
abbrev S1x8192x128 : Shape := ⟨3, ![1, 8192, 128]⟩
abbrev S1x32x128 : Shape := ⟨3, ![1, 32, 128]⟩
abbrev S1x128x64 : Shape := ⟨3, ![1, 128, 64]⟩
abbrev S128x64 : Shape := ⟨2, ![128, 64]⟩
abbrev S1x32x64 : Shape := ⟨3, ![1, 32, 64]⟩
abbrev S32x64 : Shape := ⟨2, ![32, 64]⟩
abbrev S128x32 : Shape := ⟨2, ![128, 32]⟩
abbrev S128 : Shape := ⟨1, ![128]⟩
abbrev S128x1 : Shape := ⟨2, ![128, 1]⟩
abbrev S1x256x64 : Shape := ⟨3, ![1, 256, 64]⟩
abbrev S256x64 : Shape := ⟨2, ![256, 64]⟩
abbrev S128x256 : Shape := ⟨2, ![128, 256]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x32x512, .f32⟩
  | .hbm, ⟨4, _⟩ => ⟨S2x8192x512, .bf16⟩
  | .local _ .vmem, ⟨0, _⟩ => ⟨S1x128x128, .bf16⟩
  | .local _ .vmem, ⟨1, _⟩ => ⟨S1x128x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x32x128, .f32⟩
  | .local _ .vmem, ⟨7, _⟩ => ⟨S1x32x128, .f32⟩
  | .local _ .vmem, ⟨8, _⟩ => ⟨S1x128x128, .bf16⟩
  | .local _ .vmem, ⟨9, _⟩ => ⟨S1x128x128, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 64], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_31 : BitVec 32 := 256#32
  let v87 : BitVec 32 := Scalar.muli v17 c256_i32_31
  v87
def k0_off1 (i : grid0.Coords) : Fin 3 → Nat :=
  let c0_32 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_31 : BitVec 32 := 256#32
  let v87 : BitVec 32 := Scalar.muli v17 c256_i32_31
  let v88 : BitVec 32 := v87
  let v89 : Index := Scalar.indexCast v88
  let c0_33 : Index := 0#32
  ![0, v89.toNat, 0]
@[reducible] def k0_t1_loop (i : grid0.Coords) : Scf.Loop 32 :=
  let c0_i32_42 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v115 : BitVec 32 := Scalar.subi v17 c0_i32_42
  let c1_i32_43 : BitVec 32 := 1#32
  let v117 : BitVec 32 := Scalar.divsi v115 c1_i32_43
  let v118 : BitVec 32 := Scalar.muli v117 c1_i32_43
  let v119 : BitVec 32 := Scalar.addi c0_i32_42 v118
  let c1_i32_44 : BitVec 32 := 1#32
  ⟨c0_i32_42, v119, c1_i32_44⟩
def k0_mult2 (i : grid0.Coords) (k0_t1 : Fin (k0_t1_loop i).trips) : BitVec 32 :=
  let c0_i32_42 : BitVec 32 := 0#32
  let c1_i32_44 : BitVec 32 := 1#32
  let arg8 : BitVec 32 := Scf.iv c0_i32_42 c1_i32_44 k0_t1
  let c256_i32_93 : BitVec 32 := 256#32
  let v235 : BitVec 32 := Scalar.muli arg8 c256_i32_93
  v235
def k0_off2 (i : grid0.Coords) (k0_t1 : Fin (k0_t1_loop i).trips) : Fin 3 → Nat :=
  let c0_94 : Index := 0#32
  let c0_i32_42 : BitVec 32 := 0#32
  let c1_i32_44 : BitVec 32 := 1#32
  let arg8 : BitVec 32 := Scf.iv c0_i32_42 c1_i32_44 k0_t1
  let c256_i32_93 : BitVec 32 := 256#32
  let v235 : BitVec 32 := Scalar.muli arg8 c256_i32_93
  let v236 : BitVec 32 := v235
  let v237 : Index := Scalar.indexCast v236
  let c0_95 : Index := 0#32
  ![0, v237.toNat, 0]
@[reducible] def k0_t2_loop (i : grid0.Coords) : Scf.Loop 32 :=
  let c0_i32_42 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v115 : BitVec 32 := Scalar.subi v17 c0_i32_42
  let c1_i32_43 : BitVec 32 := 1#32
  let v117 : BitVec 32 := Scalar.divsi v115 c1_i32_43
  let v118 : BitVec 32 := Scalar.muli v117 c1_i32_43
  let v119 : BitVec 32 := Scalar.addi c0_i32_42 v118
  let v116 : BitVec 32 := Scalar.addi c0_i32_42 v115
  let c1_i32_45 : BitVec 32 := 1#32
  ⟨v119, v116, c1_i32_45⟩
def k0_mult3 (i : grid0.Coords) (k0_t2 : Fin (k0_t2_loop i).trips) : BitVec 32 :=
  let c0_i32_42 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v115 : BitVec 32 := Scalar.subi v17 c0_i32_42
  let c1_i32_43 : BitVec 32 := 1#32
  let v117 : BitVec 32 := Scalar.divsi v115 c1_i32_43
  let v118 : BitVec 32 := Scalar.muli v117 c1_i32_43
  let v119 : BitVec 32 := Scalar.addi c0_i32_42 v118
  let c1_i32_45 : BitVec 32 := 1#32
  let arg8 : BitVec 32 := Scf.iv v119 c1_i32_45 k0_t2
  let c256_i32_93 : BitVec 32 := 256#32
  let v235 : BitVec 32 := Scalar.muli arg8 c256_i32_93
  v235
def k0_off3 (i : grid0.Coords) (k0_t2 : Fin (k0_t2_loop i).trips) : Fin 3 → Nat :=
  let c0_94 : Index := 0#32
  let c0_i32_42 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v115 : BitVec 32 := Scalar.subi v17 c0_i32_42
  let c1_i32_43 : BitVec 32 := 1#32
  let v117 : BitVec 32 := Scalar.divsi v115 c1_i32_43
  let v118 : BitVec 32 := Scalar.muli v117 c1_i32_43
  let v119 : BitVec 32 := Scalar.addi c0_i32_42 v118
  let c1_i32_45 : BitVec 32 := 1#32
  let arg8 : BitVec 32 := Scf.iv v119 c1_i32_45 k0_t2
  let c256_i32_93 : BitVec 32 := 256#32
  let v235 : BitVec 32 := Scalar.muli arg8 c256_i32_93
  let v236 : BitVec 32 := v235
  let v237 : Index := Scalar.indexCast v236
  let c0_95 : Index := 0#32
  ![0, v237.toNat, 0]
def k0_mult4 (i : grid0.Coords) : BitVec 32 :=
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_75 : BitVec 32 := 256#32
  let v193 : BitVec 32 := Scalar.muli v17 c256_i32_75
  v193
def k0_off4 (i : grid0.Coords) : Fin 3 → Nat :=
  let c0_76 : Index := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c256_i32_75 : BitVec 32 := 256#32
  let v193 : BitVec 32 := Scalar.muli v17 c256_i32_75
  let v194 : BitVec 32 := v193
  let v195 : Index := Scalar.indexCast v194
  let c64_77 : Index := 64#32
  ![0, v195.toNat, 64]
@[reducible] def k0_t3_loop (i : grid0.Coords) : Scf.Loop 32 :=
  let c0_i32_86 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v221 : BitVec 32 := Scalar.subi v17 c0_i32_86
  let c1_i32_87 : BitVec 32 := 1#32
  let v223 : BitVec 32 := Scalar.divsi v221 c1_i32_87
  let v224 : BitVec 32 := Scalar.muli v223 c1_i32_87
  let v225 : BitVec 32 := Scalar.addi c0_i32_86 v224
  let c1_i32_88 : BitVec 32 := 1#32
  ⟨c0_i32_86, v225, c1_i32_88⟩
def k0_mult5 (i : grid0.Coords) (k0_t3 : Fin (k0_t3_loop i).trips) : BitVec 32 :=
  let c0_i32_86 : BitVec 32 := 0#32
  let c1_i32_88 : BitVec 32 := 1#32
  let arg8 : BitVec 32 := Scf.iv c0_i32_86 c1_i32_88 k0_t3
  let c256_i32_93 : BitVec 32 := 256#32
  let v235 : BitVec 32 := Scalar.muli arg8 c256_i32_93
  v235
def k0_off5 (i : grid0.Coords) (k0_t3 : Fin (k0_t3_loop i).trips) : Fin 3 → Nat :=
  let c0_94 : Index := 0#32
  let c0_i32_86 : BitVec 32 := 0#32
  let c1_i32_88 : BitVec 32 := 1#32
  let arg8 : BitVec 32 := Scf.iv c0_i32_86 c1_i32_88 k0_t3
  let c256_i32_93 : BitVec 32 := 256#32
  let v235 : BitVec 32 := Scalar.muli arg8 c256_i32_93
  let v236 : BitVec 32 := v235
  let v237 : Index := Scalar.indexCast v236
  let c64_95 : Index := 64#32
  ![0, v237.toNat, 64]
@[reducible] def k0_t4_loop (i : grid0.Coords) : Scf.Loop 32 :=
  let c0_i32_86 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v221 : BitVec 32 := Scalar.subi v17 c0_i32_86
  let c1_i32_87 : BitVec 32 := 1#32
  let v223 : BitVec 32 := Scalar.divsi v221 c1_i32_87
  let v224 : BitVec 32 := Scalar.muli v223 c1_i32_87
  let v225 : BitVec 32 := Scalar.addi c0_i32_86 v224
  let v222 : BitVec 32 := Scalar.addi c0_i32_86 v221
  let c1_i32_89 : BitVec 32 := 1#32
  ⟨v225, v222, c1_i32_89⟩
def k0_mult6 (i : grid0.Coords) (k0_t4 : Fin (k0_t4_loop i).trips) : BitVec 32 :=
  let c0_i32_86 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v221 : BitVec 32 := Scalar.subi v17 c0_i32_86
  let c1_i32_87 : BitVec 32 := 1#32
  let v223 : BitVec 32 := Scalar.divsi v221 c1_i32_87
  let v224 : BitVec 32 := Scalar.muli v223 c1_i32_87
  let v225 : BitVec 32 := Scalar.addi c0_i32_86 v224
  let c1_i32_89 : BitVec 32 := 1#32
  let arg8 : BitVec 32 := Scf.iv v225 c1_i32_89 k0_t4
  let c256_i32_93 : BitVec 32 := 256#32
  let v235 : BitVec 32 := Scalar.muli arg8 c256_i32_93
  v235
def k0_off6 (i : grid0.Coords) (k0_t4 : Fin (k0_t4_loop i).trips) : Fin 3 → Nat :=
  let c0_94 : Index := 0#32
  let c0_i32_86 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v221 : BitVec 32 := Scalar.subi v17 c0_i32_86
  let c1_i32_87 : BitVec 32 := 1#32
  let v223 : BitVec 32 := Scalar.divsi v221 c1_i32_87
  let v224 : BitVec 32 := Scalar.muli v223 c1_i32_87
  let v225 : BitVec 32 := Scalar.addi c0_i32_86 v224
  let c1_i32_89 : BitVec 32 := 1#32
  let arg8 : BitVec 32 := Scf.iv v225 c1_i32_89 k0_t4
  let c256_i32_93 : BitVec 32 := 256#32
  let v235 : BitVec 32 := Scalar.muli arg8 c256_i32_93
  let v236 : BitVec 32 := v235
  let v237 : Index := Scalar.indexCast v236
  let c64_95 : Index := 64#32
  ![0, v237.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Router.lean ====
abbrev S16384x1024 : Shape := ⟨2, ![16384, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1x1024, .f32⟩
  | .hbm, ⟨12, _⟩ => ⟨S16384x1024, .f32⟩
  | .hbm, ⟨13, _⟩ => ⟨S16384x128, .f32⟩
  | .hbm, ⟨14, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouterRefIdeal.lean ====
abbrev S16384x1024 : Shape := ⟨2, ![16384, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S1x8 : Shape := ⟨2, ![1, 8]⟩
abbrev S16384x2 : Shape := ⟨2, ![16384, 2]⟩
abbrev S1x16384 : Shape := ⟨2, ![1, 16384]⟩
abbrev S16384x16384 : Shape := ⟨2, ![16384, 16384]⟩
abbrev S16384x122 : Shape := ⟨2, ![16384, 122]⟩
abbrev S16384x128 : Shape := ⟨2, ![16384, 128]⟩
abbrev S128 : Shape := ⟨1, ![128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8, .f32⟩
  | .hbm, ⟨21, _⟩ => ⟨S1x8, .f32⟩
  | .hbm, ⟨22, _⟩ => ⟨S16384x8, .f32⟩
  | .hbm, ⟨23, _⟩ => ⟨S16384x8, .f32⟩
  | .hbm, ⟨24, _⟩ => ⟨S8, .i32⟩
  | .hbm, ⟨25, _⟩ => ⟨S1x8, .i32⟩
  | .hbm, ⟨26, _⟩ => ⟨S16384x2, .f32⟩
  | .hbm, ⟨27, _⟩ => ⟨S16384x2, .i32⟩
  | .hbm, ⟨28, _⟩ => ⟨S16384x1, .f32⟩
  | .hbm, ⟨29, _⟩ => ⟨S16384x1, .f32⟩
  | .hbm, ⟨30, _⟩ => ⟨S16384x1, .i32⟩
  | .hbm, ⟨31, _⟩ => ⟨S_, .f32⟩
  | .hbm, ⟨32, _⟩ => ⟨S16384x1, .f32⟩
  | .hbm, ⟨33, _⟩ => ⟨S16384x1, .i1⟩
  | .hbm, ⟨34, _⟩ => ⟨S16384x1, .i32⟩
  | .hbm, ⟨35, _⟩ => ⟨S_, .i32⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x8, .i32⟩
  | .hbm, ⟨52, _⟩ => ⟨S16384x8, .i32⟩
  | .hbm, ⟨53, _⟩ => ⟨S16384x8, .i1⟩
  | .hbm, ⟨54, _⟩ => ⟨S16384x8, .f32⟩
  | .hbm, ⟨55, _⟩ => ⟨S16384x8, .i32⟩
  | .hbm, ⟨56, _⟩ => ⟨S16384x8, .i32⟩
  | .hbm, ⟨57, _⟩ => ⟨S16384x8, .i1⟩
  | .hbm, ⟨58, _⟩ => ⟨S16384x8, .f32⟩
  | .hbm, ⟨59, _⟩ => ⟨S16384x8, .f32⟩
  | .hbm, ⟨60, _⟩ => ⟨S16384, .i32⟩
  | .hbm, ⟨61, _⟩ => ⟨S1x16384, .i32⟩
  | .hbm, ⟨62, _⟩ => ⟨S16384x1, .i32⟩
  | .hbm, ⟨63, _⟩ => ⟨S16384x16384, .i32⟩
  | .hbm, ⟨64, _⟩ => ⟨S16384x16384, .i32⟩
  | .hbm, ⟨65, _⟩ => ⟨S16384x16384, .i1⟩
  | .hbm, ⟨66, _⟩ => ⟨S16384x16384, .f32⟩
  | .hbm, ⟨67, _⟩ => ⟨S16384x8, .f32⟩
  | .hbm, ⟨68, _⟩ => ⟨S16384x8, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x8, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S8, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x122, .f32⟩
  | .hbm, ⟨82, _⟩ => ⟨S16384x128, .f32⟩
  | .hbm, ⟨83, _⟩ => ⟨S_, .i32⟩
  | .hbm, ⟨84, _⟩ => ⟨S_, .f32⟩
  | .hbm, ⟨85, _⟩ => ⟨S128, .f32⟩
  | .hbm, ⟨86, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_call1_v0 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Proof.FfnValue.lean ====
/- The dense feed-forward layer: after the kernel's run the result array is
   `x + (silu(h · w_gate) * (h · w_up)) · w_down` with `h = rmsnorm(x, g)`, the reference's own term;
   the kernel walks the hidden axis in two halves and adds the two partial products. -/
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Result

open Cert.FfnIdeal Cert.FfnIdeal.Gen

variable (m : (ℓ : Loc nD τ sig) → Buf (Elt Ideal) ℓ)

/-- The feed-forward rows with the residual, as the reference composes them. -/
abbrev ffn (x : FVec Ideal S16384x1024 .f32) (g : FVec Ideal S1024 .f32)
    (wg wu : FVec Ideal S1024x2816 .f32) (wd : FVec Ideal S2816x1024 .f32) : FVec Ideal S16384x1024 .f32 :=
  Cert.FfnRefIdeal.Read.val_main_v18 (F := Ideal) x g wg wu wd

/-- The reference's rows over the argument arrays the run starts from. -/
abbrev ffnOf (c : Dev nD) : FVec Ideal S16384x1024 .f32 :=
  ffn (m ((c : Thread nD τ).loc main_arg0)) (m ((c : Thread nD τ).loc main_arg1))
    (m ((c : Thread nD τ).loc main_arg2)) (m ((c : Thread nD τ).loc main_arg3))
    (m ((c : Thread nD τ).loc main_arg4))

/-- Which block each window stages at grid point `t`: row block `t / 2` of the activations and of the
    result, the gain whole, and half `t % 2` of the hidden axis of the three weight matrices. -/
theorem idx : ∀ t : Fin cfg0.N, win0_0.index t = ![t.val / 2, 0] ∧ win0_1.index t = ![0, 0]
    ∧ win0_2.index t = ![0, t.val % 2] ∧ win0_3.index t = ![0, t.val % 2]
    ∧ win0_4.index t = ![t.val % 2, 0] ∧ win0_5.index t = ![t.val / 2, 0] :=
  (by decide +kernel : ∀ t : Fin grid0.N, _)

/-- One element of the normalised rows the first half of the hidden axis leaves behind. -/
theorem normed_at (x : FVec Ideal S512x1024 .f32) (g : FVec Ideal S1x1024 .f32) (r : Fin 512) (k : Fin 1024) :
    k0_pay1 (F := Ideal) x g (ix2 r k) = x (ix2 r k) *
      Ideal.rsqrt (Ideal.div (∑ l : Fin 1024, x (ix2 r l) * x (ix2 r l)) (Ideal.ofBits .f32 1149239296#32)
        + Ideal.ofBits .f32 897988541#32) * g (ix2 0 k) := by
  pointwise [k0_pay1]

open Cert.FfnRefIdeal.Read in
/-- The result array after the run. -/
theorem final (c : Dev nD) : (dats m 0 c).arrAt 5 (cfgs 0).N = ffnOf m c := by
  refine (dats m 0 c).arrAt_eq_of_covers 5 _ (by decide +kernel) fun t hf y => ?_
  blk_simp
  have h1 : t.val % 2 = 1 := (flush0_5 t).mp hf
  have h0 : ¬t.val % 2 = 0 := by omega
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega)
  dsimp only at hA
  rw [after0_5, outsAt0_B m c t h0 h1, hA]; frame_out
  rw [read_unread_whole, read_unread_whole]
  pointwise [normed_at, k0_pay2, k0_pay3, k0_pay4, ffnOf, ffn,
    val_main_v18, val_main_v17, val_main_v16, val_main_v15, val_main_v14, val_main_call0_v5,
    val_main_call0_v4, val_main_call0_cst_0, val_main_call0_v3, val_main_call0_v2,
    val_main_call0_cst, val_main_call0_v1, val_main_call0_v0, val_main_v13, val_main_v12,
    val_main_v11, val_main_v10, val_main_v9, val_main_v8, val_main_v7, val_main_v6, val_main_v5,
    val_main_cst_1, val_main_v4, val_main_v3, val_main_cst_0, val_main_v2, val_main_v1,
    val_main_cst, val_main_v0]
  simp only [zero_sub]
  rw [Fin.sum_univ_two_halves 1408 1408 rfl]
  blk_point [iblk, V, idx t, idx ⟨t.val - 1, hp⟩]

end Cert.FfnIdeal.Result

end
-- ==== Proof.MergeValue.lean ====
/- The gated merge of the three mixer branches and the output projection: after the kernel's run the
   result array is `x + (Σ_i sigmoid(gate_i) · (y_i · w_up_i)) · w_o`, the reference's own term. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-- The merged rows after the output projection and the residual, as the reference composes them. -/
abbrev merged (x : FVec Ideal S16384x1024 .f32) (g : FVec Ideal S1024 .f32)
    (wg : FVec Ideal S1024x3072 .f32) (bg : FVec Ideal S1x3072 .f32)
    (ya yb yc : FVec Ideal S16384x512 .bf16) (wa wb wc : FVec Ideal S512x1024 .f32)
    (wo : FVec Ideal S1024x1024 .f32) : FVec Ideal S16384x1024 .f32 :=
  Cert.MergeRefIdeal.Read.val_main_v41 (F := Ideal) x g wg bg ya yb yc wa wb wc wo

/-- The reference's merged rows over the argument arrays the run starts from. -/
abbrev mergedOf (c : Dev nD) : FVec Ideal S16384x1024 .f32 :=
  merged (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10))

/-- Which block each window stages at grid point `t`: row block `t` of the activations, of the three
    branches and of the result, the whole of the gain, the bias and every weight matrix. -/
theorem idx : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![t.val, 0] ∧ win0_7.index t = ![0, 0]
    ∧ win0_8.index t = ![0, 0] ∧ win0_9.index t = ![0, 0] ∧ win0_10.index t = ![0, 0]
    ∧ win0_11.index t = ![t.val, 0] :=
  (by decide +kernel : ∀ t : Fin grid0.N, _)

open Cert.MergeRefIdeal.Read in
/-- The result array after the run. -/
theorem final (c : Dev nD) : (dats m 0 c).arrAt 11 (cfgs 0).N = mergedOf m c := by
  refine (dats m 0 c).arrAt_eq_of_covers 11 _ (by decide +kernel) fun t _ y => ?_
  blk_simp
  rw [after0_11]; frame_out
  pointwise [k0_pay1, k0_pay2, k0_pay3, k0_pay4, k0_pay5, mergedOf, merged,
    val_main_v41, val_main_v40, val_main_v39, val_main_v38, val_main_v37, val_main_v36,
    val_main_v35, val_main_v34, val_main_v33, val_main_v32, val_main_v31, val_main_v30,
    val_main_v29, val_main_v28, val_main_v27, val_main_v26, val_main_v25, val_main_v24,
    val_main_v23, val_main_v22, val_main_v21, val_main_v20, val_main_cst_3, val_main_v19,
    val_main_v18, val_main_cst_2, val_main_v17, val_main_v16, val_main_v15, val_main_v14,
    val_main_v13, val_main_v12, val_main_v11, val_main_v10, val_main_v9, val_main_v8, val_main_v7,
    val_main_v6, val_main_v5, val_main_cst_1, val_main_v4, val_main_v3, val_main_cst_0, val_main_v2,
    val_main_v1, val_main_cst, val_main_v0]
  simp only [zero_sub]
  blk_point [iblk, V, idx t]

end Cert.MergeIdeal.Result

end
-- ==== Proof.ProjValue.lean ====
/- The projection in front of the gated-linear-attention scan: after the kernel's run the result
   array is `rmsnorm(x, g) · w + b`, the reference's own term of the four arguments. -/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Result

open Cert.ProjIdeal Cert.ProjIdeal.Gen

variable (m : (ℓ : Loc nD τ sig) → Buf (Elt Ideal) ℓ)

/-- The normalised, projected and biased rows, as the reference composes them. -/
abbrev projected (x : FVec Ideal S16384x1024 .f32) (g : FVec Ideal S1024 .f32)
    (w : FVec Ideal S1024x1664 .f32) (b : FVec Ideal S1x1664 .f32) : FVec Ideal S16384x1664 .f32 :=
  Cert.ProjRefIdeal.Read.val_main_v15 (F := Ideal) x g w b

/-- Which block each window stages at grid point `t`: row block `t` of the activations and of the
    result, the whole of the gain, the weights and the bias. -/
theorem idx : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

/-- One element of the block that point `t` stores is the reference's element at its place. -/
theorem point (c : Dev nD) (t : Fin cfg0.N) (y : S512x1664.Idx) :
    k0_pay1 (F := Ideal) (iblk m c 0 t) (iblk m c 1 t) (iblk m c 2 t) (iblk m c 3 t) y
      = projected (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, projected, Cert.ProjRefIdeal.Read.val_main_v15, Cert.ProjRefIdeal.Read.val_main_v14,
    Cert.ProjRefIdeal.Read.val_main_v13, Cert.ProjRefIdeal.Read.val_main_v12, Cert.ProjRefIdeal.Read.val_main_v11,
    Cert.ProjRefIdeal.Read.val_main_v10, Cert.ProjRefIdeal.Read.val_main_v9, Cert.ProjRefIdeal.Read.val_main_v8,
    Cert.ProjRefIdeal.Read.val_main_v7, Cert.ProjRefIdeal.Read.val_main_v6, Cert.ProjRefIdeal.Read.val_main_v5,
    Cert.ProjRefIdeal.Read.val_main_v4, Cert.ProjRefIdeal.Read.val_main_v3, Cert.ProjRefIdeal.Read.val_main_v2,
    Cert.ProjRefIdeal.Read.val_main_v1, Cert.ProjRefIdeal.Read.val_main_v0, Cert.ProjRefIdeal.Read.val_main_cst,
    Cert.ProjRefIdeal.Read.val_main_cst_0, Cert.ProjRefIdeal.Read.val_main_cst_1]
  blk_point [iblk, V, idx t]

/-- The result array after the run. -/
theorem final (c : Dev nD) : (dats m 0 c).arrAt 4 (cfgs 0).N
    = projected (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.ProjIdeal.Result

end
-- ==== Proof.GroupedRoute.lean ====
/- Which expert a block of 512 rows belongs to. The rows of an expert end at a given word of the list of
   ends, so the expert of a block is the number of ends at or before the block's first row, at most 7.
   The kernel counts along the second axis of a table of comparisons, the reference along the first. -/
module

public import Idealize.ShloMosaic.Lib.Pointwise
public import Idealize.ShloMosaic.Lib.StableHlo.Predicate

@[expose] public section

noncomputable section

open Idealize.ShloMosaic

namespace Cert.GroupedRoute

/-- The first row of block `b`, as a word. -/
abbrev startWord (b : Nat) : BitVec 32 := IntOp.muli (BitVec.ofNat 32 b) 512#32

open Classical in
/-- The number of ends at or before a block's first row, at most 7. -/
def expertOf (pe : IVec ⟨1, ![8]⟩ 32) (b : Nat) : Nat :=
  min (Finset.univ.filter fun q : Fin 8 => IntOp.cmpi .sle (pe (ix1 q)) (startWord b) = 1#1).card 7

/-- It is one of the eight experts. -/
theorem expertOf_lt (pe : IVec ⟨1, ![8]⟩ 32) (b : Nat) : expertOf pe b < 8 :=
  Nat.lt_of_le_of_lt (Nat.min_le_right _ _) (by decide)

/-- The signed minimum of a small count with 7 is the count's own minimum with 7. -/
theorem minsi_seven (x : BitVec 32) (n : Nat) (hx : x.toNat = n) (hn : n ≤ 8) : IntOp.minsi x 7#32 = BitVec.ofNat 32 (min n 7) := by
  have e : x = BitVec.ofNat 32 n := by
    apply BitVec.eq_of_toNat_eq
    rw [hx, BitVec.toNat_ofNat, Nat.mod_eq_of_lt (by omega)]
  subst e
  interval_cases n <;> decide

/-- Comparing from the other side. -/
theorem sge_eq_sle (x y : BitVec 32) : IntOp.cmpi .sge x y = IntOp.cmpi .sle y x := rfl

/-- The kernel's table entry: the comparisons of block `b` run along the second axis. -/
theorem count_second (pe : IVec ⟨1, ![8]⟩ 32) (msk : IVec ⟨2, ![72, 8]⟩ 1) (hw : 1 < 32)
    (h : (⟨2, ![72, 8]⟩ : Shape).ReducesTo [1] ⟨1, ![72]⟩) {u : Shape} (hu : 0 < u.numel) (b : Fin 72)
    (hm : ∀ q : Fin 8, msk (ix2 b q) = IntOp.cmpi .sge (startWord b.val) (pe (ix1 q))) :
    IntOp.minsi (Host.reduce IntOp.addi (extui 32 msk hw) (constantI u 32 0#32) h hu (ix1 b)) 7#32
      = BitVec.ofNat 32 (expertOf pe b.val) := by
  classical
  refine minsi_seven _ _ ?_ ((Finset.card_le_univ _).trans (by simp))
  rw [StableHlo.Predicate.toNat_reduce_count_cols (by decide)]
  refine congrArg Finset.card (Finset.filter_congr fun q _ => ?_)
  have e : StableHlo.Predicate.ij ((ix1 b : (⟨1, ![72]⟩ : Shape).Idx) 0) q = ix2 b q := by
    funext a; match a with
    | ⟨0, _⟩ => rfl
    | ⟨1, _⟩ => rfl
  exact iff_of_eq (congrArg (· = 1#1) ((congrArg msk e).trans (hm q)))

/-- The reference's entry: the comparisons of block `b` run along the first axis. -/
theorem count_first (pe : IVec ⟨1, ![8]⟩ 32) (msk : IVec ⟨2, ![8, 72]⟩ 1) (hw : 1 < 32)
    (h : (⟨2, ![8, 72]⟩ : Shape).ReducesTo [0] ⟨1, ![72]⟩) {u : Shape} (hu : 0 < u.numel) (b : Fin 72)
    (hm : ∀ q : Fin 8, msk (ix2 q b) = IntOp.cmpi .sle (pe (ix1 q)) (startWord b.val)) :
    IntOp.minsi (Host.reduce IntOp.addi (extui 32 msk hw) (constantI u 32 0#32) h hu (ix1 b)) 7#32
      = BitVec.ofNat 32 (expertOf pe b.val) := by
  classical
  refine minsi_seven _ _ ?_ ((Finset.card_le_univ _).trans (by simp))
  rw [StableHlo.Predicate.toNat_reduce_count_rows (by decide)]
  refine congrArg Finset.card (Finset.filter_congr fun q _ => ?_)
  have e : StableHlo.Predicate.ij q ((ix1 b : (⟨1, ![72]⟩ : Shape).Idx) 0) = ix2 q b := by
    funext a; match a with
    | ⟨0, _⟩ => rfl
    | ⟨1, _⟩ => rfl
  exact iff_of_eq (congrArg (· = 1#1) ((congrArg msk e).trans (hm q)))

/-- An expert's number read as a word is the number itself. -/
theorem expert_toNat (pe : IVec ⟨1, ![8]⟩ 32) (b : Nat) : (BitVec.ofNat 32 (expertOf pe b)).toNat = expertOf pe b := by
  rw [BitVec.toNat_ofNat, Nat.mod_eq_of_lt (Nat.lt_trans (expertOf_lt pe b) (by decide))]

/-- The wrapping of negative indices leaves an expert's number. -/
theorem expert_wrap (pe : IVec ⟨1, ![8]⟩ 32) (b : Nat) (y : BitVec 32) :
    Scalar.select (IntOp.cmpi .slt (BitVec.ofNat 32 (expertOf pe b)) 0#32) y (BitVec.ofNat 32 (expertOf pe b))
      = BitVec.ofNat 32 (expertOf pe b) := by
  have h := expertOf_lt pe b
  have e : IntOp.cmpi .slt (BitVec.ofNat 32 (expertOf pe b)) 0#32 = 0#1 := by
    generalize expertOf pe b = n at h
    interval_cases n <;> decide
  rw [e]
  rfl

/-- Read as a signed start it is the number, no more than 7. -/
theorem expert_start (pe : IVec ⟨1, ![8]⟩ 32) (b : Nat) :
    min (BitVec.ofNat 32 (expertOf pe b)).toInt.toNat 7 = expertOf pe b := by
  have h := expertOf_lt pe b
  generalize expertOf pe b = n at h
  interval_cases n <;> decide

/-- Taking one expert's rectangle of weights per block: the gather's start is the expert along the first axis and 0
    along the others. -/
theorem gather_expert {α : Type} {a b : Nat} (d : GatherDims ⟨3, ![8, a, b]⟩ ⟨2, ![72, 3]⟩ ⟨4, ![72, 1, a, b]⟩)
    (hoff : d.offsetDims = [1, 2, 3]) (hcoll : d.collapsedSliceDims = []) (hob : d.operandBatchingDims = [])
    (hsim : d.startIndexMap = [0, 1, 2]) (hivd : d.indexVectorDim = 1) (hsz : d.sliceSizes = ![1, a, b])
    (x : (⟨3, ![8, a, b]⟩ : Shape).Idx → α) (idx : IVec ⟨2, ![72, 3]⟩ 32) (n : Fin 72) (p : Fin a) (q : Fin b) (e : Fin 8)
    (he : min (idx (ix2 n (0 : Fin 3))).toInt.toNat 7 = e.val) :
    Host.gather d x idx (ix4 n (0 : Fin 1) p q) = x (ix3 e p q) := by
  obtain ⟨od, cd, obd, sbd, sim, ivd, sz, wf⟩ := d
  dsimp only at hoff hcoll hob hsim hivd hsz
  subst hoff hcoll hob hsim hivd hsz
  unfold Host.gather
  refine congrArg x (funext fun k => Fin.ext ?_)
  generalize hd : (⟨[1, 2, 3], [], [], sbd, [0, 1, 2], 1, ![1, a, b], wf⟩ : GatherDims ⟨3, ![8, a, b]⟩ ⟨2, ![72, 3]⟩ ⟨4, ![72, 1, a, b]⟩) = d
  show d.start (ix4 n (0 : Fin 1) p q) idx k + d.batchCoord (ix4 n (0 : Fin 1) p q) k + d.offCoord (ix4 n (0 : Fin 1) p q) k = (ix3 e p q k).val
  rw [d.batchCoord_eq_zero _ _ (by subst hd; exact List.not_mem_nil), Nat.add_zero]
  have hs (k : Fin 3) (hk : ![8 - 1, a - a, b - b] k = 0) : d.start (ix4 n (0 : Fin 1) p q) idx k = 0 := by
    have h := d.start_le (ix4 n (0 : Fin 1) p q) idx k
    have e0 : (⟨3, ![8, a, b]⟩ : Shape).size k - d.sliceSizes k = 0 := by
      subst hd
      fin_cases k
      · exact absurd hk (by show ¬(8 - 1 = 0); decide)
      · exact Nat.sub_self a
      · exact Nat.sub_self b
    omega
  match k with
  | ⟨0, _⟩ =>
    have h0 : d.start (ix4 n (0 : Fin 1) p q) idx 0 = e.val := by
      subst hd
      rw [← he]
      unfold GatherDims.start
      rw [dif_pos (show (0 : Fin 3) ∈ [0, 1, 2] by decide)]
      refine congrArg (fun i => min (idx i).toInt.toNat 7) (funext fun c => Fin.ext ?_)
      match c with
      | ⟨0, _⟩ => rfl
      | ⟨1, _⟩ => rfl
    have h1 : d.offCoord (ix4 n (0 : Fin 1) p q) 0 = 0 := by subst hd; rfl
    exact (congrArg₂ (· + ·) h0 h1)
  | ⟨1, _⟩ =>
    have h1 : d.offCoord (ix4 n (0 : Fin 1) p q) 1 = p.val := by subst hd; rfl
    exact (congrArg₂ (· + ·) (hs 1 (Nat.sub_self a)) h1).trans (Nat.zero_add _)
  | ⟨2, _⟩ =>
    have h1 : d.offCoord (ix4 n (0 : Fin 1) p q) 2 = q.val := by subst hd; rfl
    exact (congrArg₂ (· + ·) (hs 2 (Nat.sub_self b)) h1).trans (Nat.zero_add _)

end Cert.GroupedRoute

end
-- ==== Proof.GroupedIdealFrame.lean ====
/- The frame of the grouped expert feed-forward (real numbers): what each grid point leaves in the
   result block and in the accumulator, the body's triple in its four cases (first or second half of the
   hidden axis, block holding rows or not), and the run. It follows the generated frame of the program; the
   four cases' contents need a longer unfolding than the default. -/
module

public import proofs.«01_k».proof.Proof.Gen.GroupedIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.GroupedIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VO0_4.read (Elt F) (VO0_4.writes (Elt F) VO0_4.junk (kernelRun0_A c i arg4 harg4 arg5 harg5 arg6 harg6 arg7 harg7 arg8 harg8 arg9 harg9 hc0 hc2 x0 x1 x2 x3 xt0 xt1 hc1).1)

/-- Case A's pieces for scratch `arg9`, which the kernel carries between points, cover it: 2 pieces of `S512x1024` tiling it (Lib/Ring.lean `Piece.tiledL`). -/
theorem scover0_A_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : cond0_1 i (tbM0_1.view.readAt (Elt F) (Rect.unit (s := S72) (k0_off1 i) S1.size (k0_off1_inb i)).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 hc0 hc2 x0 x1 x2 x3 xt0 xt1 hc1).2.1, y ∈ pc.1.set :=
  View.cover_of_tiledL (kernelRun0_A c i arg4 harg4 arg5 harg5 arg6 harg6 arg7 harg7 arg8 harg8 arg9 harg9 hc0 hc2 x0 x1 x2 x3 xt0 xt1 hc1).2.1 S512x1024.size (by sl_kernel_rfl) y

/-- What case A leaves in scratch `arg9`: its pieces read back over junk. -/
def sout0_A_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 hc0 hc2 x0 x1 x2 x3 xt0 xt1 hc1).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : ¬cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VO0_4.read (Elt F) (VO0_4.writes (Elt F) VO0_4.junk (kernelRun0_B c i arg4 harg4 arg5 harg5 arg6 harg6 arg7 harg7 arg8 harg8 arg9 harg9 hc0 hc2 x0 x1 x2 x3 xt0 xt1 hc1).1)

/-- Case B's pieces for scratch `arg9`, which the kernel carries between points, cover it: 1 piece of `S512x1024` tiling it (Lib/Ring.lean `Piece.tiledL`). -/
theorem scover0_B_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : ¬cond0_1 i (tbM0_1.view.readAt (Elt F) (Rect.unit (s := S72) (k0_off1 i) S1.size (k0_off1_inb i)).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 hc0 hc2 x0 x1 x2 x3 xt0 xt1 hc1).2.1, y ∈ pc.1.set :=
  View.cover_of_tiledL (kernelRun0_B c i arg4 harg4 arg5 harg5 arg6 harg6 arg7 harg7 arg8 harg8 arg9 harg9 hc0 hc2 x0 x1 x2 x3 xt0 xt1 hc1).2.1 S512x1024.size (by sl_kernel_rfl) y

/-- What case B leaves in scratch `arg9`: its pieces read back over junk. -/
def sout0_B_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : ¬cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_B c i arg4 harg4 arg5 harg5 arg6 harg6 arg7 harg7 arg8 harg8 arg9 harg9 hc0 hc2 x0 x1 x2 x3 xt0 xt1 hc1).2.1)

/-- Case C's pieces for output 4 tile its block (1 store of `S512x1024`, checked by the kernel's evaluation: Lib/Ring.lean `Piece.tiledL`, linear in the pieces, through a loop's `@[irreducible]` trip theorem too), so they cover it. -/
theorem cover0_C_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : cond0_1 i (tbM0_1.view.readAt (Elt F) (Rect.unit (s := S72) (k0_off1 i) S1.size (k0_off1_inb i)).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc0 hc2 x0 x1 x2 x3 xt0 xt1 xs0 hc1).1, y ∈ pc.1.set :=
  View.cover_of_tiledL (kernelRun0_C c i arg4 harg4 arg5 harg5 arg6 harg6 arg7 harg7 arg8 harg8 arg9 harg9 hc0 hc2 x0 x1 x2 x3 xt0 xt1 xs0 hc1).1 S512x1024.size (by sl_kernel_rfl) y

/-- What case C leaves in output 4's staging buffer: its pieces read back over junk. -/
def out0_C_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VO0_4.read (Elt F) (VO0_4.writes (Elt F) VO0_4.junk (kernelRun0_C c i arg4 harg4 arg5 harg5 arg6 harg6 arg7 harg7 arg8 harg8 arg9 harg9 hc0 hc2 x0 x1 x2 x3 xt0 xt1 xs0 hc1).1)

/-- Case C's pieces for scratch `arg9`, which the kernel carries between points, cover it: 1 piece of `S512x1024` tiling it (Lib/Ring.lean `Piece.tiledL`). -/
theorem scover0_C_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : cond0_1 i (tbM0_1.view.readAt (Elt F) (Rect.unit (s := S72) (k0_off1 i) S1.size (k0_off1_inb i)).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc0 hc2 x0 x1 x2 x3 xt0 xt1 xs0 hc1).2.1, y ∈ pc.1.set :=
  View.cover_of_tiledL (kernelRun0_C c i arg4 harg4 arg5 harg5 arg6 harg6 arg7 harg7 arg8 harg8 arg9 harg9 hc0 hc2 x0 x1 x2 x3 xt0 xt1 xs0 hc1).2.1 S512x1024.size (by sl_kernel_rfl) y

/-- What case C leaves in scratch `arg9`: its pieces read back over junk. -/
def sout0_C_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 hc0 hc2 x0 x1 x2 x3 xt0 xt1 xs0 hc1).2.1)

/-- Case D's pieces for output 4 tile its block (1 store of `S512x1024`, checked by the kernel's evaluation: Lib/Ring.lean `Piece.tiledL`, linear in the pieces, through a loop's `@[irreducible]` trip theorem too), so they cover it. -/
theorem cover0_D_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S72) (k0_off1 i) S1.size (k0_off1_inb i)).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 hc0 hc2 x0 x1 x2 x3 xt0 xt1 xs0 hc1).1, y ∈ pc.1.set :=
  View.cover_of_tiledL (kernelRun0_D c i arg4 harg4 arg5 harg5 arg6 harg6 arg7 harg7 arg8 harg8 arg9 harg9 hc0 hc2 x0 x1 x2 x3 xt0 xt1 xs0 hc1).1 S512x1024.size (by sl_kernel_rfl) y

/-- What case D leaves in output 4's staging buffer: its pieces read back over junk. -/
def out0_D_4 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S72) (k0_off1 i) S1.size (k0_off1_inb i)).toLoadRect xt1 (Shape.Idx.first (numel1_S1.symm ▸ Nat.one_pos)))) : Vec F S512x1024 .f32 :=
  VO0_4.read (Elt F) (VO0_4.writes (Elt F) VO0_4.junk (kernelRun0_D c i arg4 harg4 arg5 harg5 arg6 harg6 arg7 harg7 arg8 harg8 arg9 harg9 hc0 hc2 x0 x1 x2 x3 xt0 xt1 xs0 hc1).1)

/-- Case D stores nothing into scratch `arg9`: it holds what the point before left. -/
def sout0_D_0 (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S72) (k0_off1 i) S1.size (k0_off1_inb i)).toLoadRect xt1 (Shape.Idx.first (numel1_S1.symm ▸ Nat.one_pos)))) : Vec F S512x1024 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .f32
  | 0, hn => if h1 : cond0_1 (grid0.coords ⟨0, hn⟩) (tbM0_1.view.readAt (Elt F) (Rect.unit (s := S72) (k0_off1 (grid0.coords ⟨0, hn⟩)) S1.size (k0_off1_inb (grid0.coords ⟨0, hn⟩))).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
  | n + 1, hn =>
    if h1 : cond0_1 (grid0.coords ⟨n + 1, hn⟩) (tbM0_1.view.readAt (Elt F) (Rect.unit (s := S72) (k0_off1 (grid0.coords ⟨n + 1, hn⟩)) S1.size (k0_off1_inb (grid0.coords ⟨n + 1, hn⟩))).toLoadRect (tbl m 1) (Shape.Idx.first (numel1_S1.symm ▸ Nat.one_pos))) then
      if h0 : (n + 1) % 2 = 0 then
        if h2 : (n + 1) % 2 = 1 then
          False.elim (by have hN : n + 1 < 144 := lt_of_lt_of_eq hn (show (cfgM m hO).N = 144 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          False.elim (by have hN : n + 1 < 144 := lt_of_lt_of_eq hn (show (cfgM m hO).N = 144 from N_0); omega)
    else
      if h0 : (n + 1) % 2 = 0 then
        if h2 : (n + 1) % 2 = 1 then
          False.elim (by have hN : n + 1 < 144 := lt_of_lt_of_eq hn (show (cfgM m hO).N = 144 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          False.elim (by have hN : n + 1 < 144 := lt_of_lt_of_eq hn (show (cfgM m hO).N = 144 from N_0); omega)

set_option maxHeartbeats 8000000 in
/-- `outsAt0` at a point of case A: that case's contents. -/
theorem outsAt0_A (hO : Ok m) (c : Dev nD) (t : Fin (cfgM m hO).N) (h0 : t.val % 2 = 0) (h1 : cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))) (h2 : ¬t.val % 2 = 1) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_pos h1).trans rfl
  | succ n => exact (dif_pos h1).trans ((dif_pos h0).trans ((dif_neg h2).trans rfl))

set_option maxHeartbeats 8000000 in
/-- `outsAt0` at a point of case B: that case's contents. -/
theorem outsAt0_B (hO : Ok m) (c : Dev nD) (t : Fin (cfgM m hO).N) (h0 : t.val % 2 = 0) (h1 : ¬cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))) (h2 : ¬t.val % 2 = 1) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_neg h1).trans rfl
  | succ n => exact (dif_neg h1).trans ((dif_pos h0).trans ((dif_neg h2).trans rfl))

set_option maxHeartbeats 8000000 in
/-- `outsAt0` at a point of case C: that case's contents, over what the point before left. -/
theorem outsAt0_C (hO : Ok m) (c : Dev nD) (t : Fin (cfgM m hO).N) (h0 : ¬t.val % 2 = 0) (h1 : cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))) (h2 : t.val % 2 = 1) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_pos h1).trans ((dif_neg h0).trans ((dif_pos h2).trans rfl))

set_option maxHeartbeats 8000000 in
/-- `outsAt0` at a point of case D: that case's contents, over what the point before left. -/
theorem outsAt0_D (hO : Ok m) (c : Dev nD) (t : Fin (cfgM m hO).N) (h0 : ¬t.val % 2 = 0) (h1 : ¬cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))) (h2 : t.val % 2 = 1) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_neg h1).trans ((dif_neg h0).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 144 := lt_of_lt_of_eq t.isLt (show (cfgM m hO).N = 144 from N_0)
  by_cases h0 : t.val % 2 = 0
  · by_cases h1 : cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S72) (k0_off1 (grid0.coords t)) S1.size (k0_off1_inb (grid0.coords t))).toLoadRect (tbl m 1) (Shape.Idx.first (numel1_S1.symm ▸ Nat.one_pos)))
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_C m hO t (fun h => h0 ((hcond0_0 t).mp h)) ((hcond0_2 t).mpr h2)]; try rfl, after0_4]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_C m hO c t h0 h1 h2]
          unfold out0_C_4 sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _)
      · exfalso; omega
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_D m hO t (fun h => h0 ((hcond0_0 t).mp h)) ((hcond0_2 t).mpr h2)]; try rfl, after0_4]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_D m hO c t h0 h1 h2]
          unfold out0_D_4 sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_D_4 c _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 144 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_GroupedIdeal`'s statement (Defs.lean) at any `F` — Proof.lean cites it at `Bits`:
    `theorem Cert.Proof.claim : Cert.Claim := ⟨Cert.GroupedIdeal.Gen.facts, fun m ρ _ => Cert.GroupedIdeal.Gen.frame m ρ⟩`; here for every contents of the PREFETCHED TABLES, UNDER `Gen.Ok m` (the pipeline's side condition of
    them), which Proof.lean proves from the precondition: `⟨…, fun m ρ h => Cert.GroupedIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.GroupedIdeal.Gen

end
-- ==== Proof.GroupedIdealTables.lean ====
/- The two tables the grouped feed-forward prefetches, read off the launch memory: entry `b` of the first
   is block `b`'s expert, of the second whether the block holds rows. Every block of weights the first
   names lies inside its array, so the pipeline's side condition on the tables holds of every memory. -/
module

public import proofs.«01_k».proof.Proof.Gen.GroupedIdeal.Frame.Runs
public import proofs.«01_k».proof.Proof.GroupedRoute
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GroupedIdeal.Tables

open Cert.GroupedIdeal Cert.GroupedIdeal.Gen Cert.GroupedRoute

variable {F : FTy → Type} [FloatOps F]
variable (m : (ℓ : Loc nD τ sig) → Buf (Elt F) ℓ)

/-- The list of ends the run starts from. -/
abbrev ends : IVec ⟨1, ![8]⟩ 32 := m (((0 : Dev nD) : Thread nD τ).loc main_arg1)

/-- The first table's entry `b`: block `b`'s expert. -/
theorem expert_entry (b : Fin 72) : tbl m 0 (ix1 b) = BitVec.ofNat 32 (expertOf (ends m) b.val) := by
  show V m 0 main_v16 (ix1 b) = _
  unfold V
  after_results
  refine count_second (ends m) _ _ _ _ b fun q => ?_
  pointwise

/-- The second table's entry `b`: whether block `b` starts before the last end. -/
theorem valid_entry (b : Fin 72) :
    tbl m 1 (ix1 b) = (IntOp.cmpi .slt (startWord b.val) (ends m (ix1 (7 : Fin 8)))).setWidth 32 := by
  show V m 0 main_v7 (ix1 b) = _
  unfold V
  after_results
  pointwise

/-- The word an index map loads from the first table at grid point `i`. -/
theorem expert_load (i : grid0.Coords) :
    (tbl m).at 0 (Rect.unit (s := S72) ![(Scalar.indexCast (BitVec.ofNat 32 (i 0).val) : Index).toNat] S1.size (k0_off1_inb i)) numel1_S1
      = BitVec.ofNat 32 (expertOf (ends m) (i 0).val) := by
  refine Eq.trans ?_ (expert_entry m ⟨(i 0).val, (i 0).isLt⟩)
  refine congrArg (tbl m 0) (funext fun a => Fin.ext ?_)
  have hi : (i 0).val < 72 := (i 0).isLt
  have hv : (Scalar.indexCast (BitVec.ofNat 32 (i 0).val) : Index).toNat = (i 0).val := by
    simp [Scalar.indexCast]; omega
  match a with
  | ⟨0, _⟩ => exact hv

/-- The block of gate or up weights named at a grid point. -/
theorem index_up (i : grid0.Coords) :
    cc0_transform_1 k0_off1_inb numel1_S1 (tbl m) i = ![expertOf (ends m) (i 0).val, 0, (i 1).val] := by
  have h0 := congrArg BitVec.toNat (expert_load m i)
  rw [expert_toNat] at h0
  have hi : (i 1).val < 2 := (i 1).isLt
  have h1 : (BitVec.ofNat 32 (i 1).val).toNat = (i 1).val := by rw [BitVec.toNat_ofNat, Nat.mod_eq_of_lt (by omega)]
  funext a
  match a with
  | ⟨0, _⟩ => exact h0
  | ⟨1, _⟩ => rfl
  | ⟨2, _⟩ => exact h1

/-- The block of down weights named at a grid point. -/
theorem index_down (i : grid0.Coords) :
    cc0_transform_3 k0_off1_inb numel1_S1 (tbl m) i = ![expertOf (ends m) (i 0).val, (i 1).val, 0] := by
  have h0 := congrArg BitVec.toNat (expert_load m i)
  rw [expert_toNat] at h0
  have hi : (i 1).val < 2 := (i 1).isLt
  have h1 : (BitVec.ofNat 32 (i 1).val).toNat = (i 1).val := by rw [BitVec.toNat_ofNat, Nat.mod_eq_of_lt (by omega)]
  funext a
  match a with
  | ⟨0, _⟩ => exact h0
  | ⟨1, _⟩ => exact h1
  | ⟨2, _⟩ => rfl

/-- A block of half an expert's columns, all rows, is inside the array and word-exact. -/
theorem up_inside (x : Fin 3 → Nat) (e f : Nat) (hx : x = ![e, 0, f]) (he : e < 8) (hf : f < 2) :
    ∃ h : (∀ a, (x a + 1) * S1x1024x1408.size a ≤ S8x1024x2816.size a), EltTy.bits .bf16 = 32 ∨ (Rect.block (s := S8x1024x2816) S1x1024x1408.size x h).WholeWords (EltTy.packing .bf16) := by
  subst hx
  refine ⟨fun a => ?_, .inr (.inr ⟨by decide, rfl, rfl, rfl⟩)⟩
  match a with
  | ⟨0, _⟩ => show (e + 1) * 1 ≤ 8; omega
  | ⟨1, _⟩ => show (0 + 1) * 1024 ≤ 1024; omega
  | ⟨2, _⟩ => show (f + 1) * 1408 ≤ 2816; omega

/-- A block of half an expert's rows, all columns, is inside the array and word-exact. -/
theorem down_inside (x : Fin 3 → Nat) (e f : Nat) (hx : x = ![e, f, 0]) (he : e < 8) (hf : f < 2) :
    ∃ h : (∀ a, (x a + 1) * S1x1408x1024.size a ≤ S8x2816x1024.size a), EltTy.bits .bf16 = 32 ∨ (Rect.block (s := S8x2816x1024) S1x1408x1024.size x h).WholeWords (EltTy.packing .bf16) := by
  subst hx
  refine ⟨fun a => ?_, .inr (.inl (.inr ⟨by decide, rfl, .inl ⟨?_, ?_⟩⟩))⟩
  · match a with
    | ⟨0, _⟩ => show (e + 1) * 1 ≤ 8; omega
    | ⟨1, _⟩ => show (f + 1) * 1408 ≤ 2816; omega
    | ⟨2, _⟩ => show (0 + 1) * 1024 ≤ 1024; omega
  · show 2 ∣ f * 1408
    exact Dvd.dvd.mul_left (by decide) _
  · show 2 ∣ 1408
    decide

/-- THE SIDE CONDITION holds of every memory. -/
theorem ok : Ok m :=
  ⟨fun i => up_inside _ _ _ (index_up m i) (expertOf_lt _ _) (i 1).isLt,
    fun i => up_inside _ _ _ (index_up m i) (expertOf_lt _ _) (i 1).isLt,
    fun i => down_inside _ _ _ (index_down m i) (expertOf_lt _ _) (i 1).isLt⟩

end Cert.GroupedIdeal.Tables

end
-- ==== Proof.GroupedIdealWords.lean ====
/- The grouped expert feed-forward's grid: which coordinates a grid point has, when its block holds rows, and
   which block of each array it stages. -/
module

public import proofs.«01_k».proof.Proof.GroupedIdealTables
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupedIdeal.Result

open Cert.GroupedIdeal Cert.GroupedIdeal.Gen Cert.GroupedIdeal.Tables Cert.GroupedRoute

variable (m : (ℓ : Loc nD τ sig) → Buf (Elt Ideal) ℓ)

/-- The grid point's two coordinates: the block of rows and the half of the hidden axis. -/
theorem coords (t : Fin grid0.N) : (grid0.coords t 0).val = t.val / 2 ∧ (grid0.coords t 1).val = t.val % 2 :=
  (by decide +kernel : ∀ t : Fin grid0.N, (grid0.coords t 0).val = t.val / 2 ∧ (grid0.coords t 1).val = t.val % 2) t

/-- The body's condition on the second table's word is the reference's test of the block. -/
theorem cond_word (i : grid0.Coords) (x : BitVec 1) : cond0_1 i (x.setWidth 32) ↔ x = 1#1 := by
  unfold cond0_1
  revert x
  decide

/-- The word the body loads from the second table at grid point `i`. -/
theorem valid_load (i : grid0.Coords) :
    tbM0_1.view.readAt (Elt Ideal) (Rect.unit (s := S72) (k0_off1 i) S1.size (k0_off1_inb i)).toLoadRect (tbl m 1) (Shape.Idx.first (numel1_S1.symm ▸ Nat.one_pos))
      = (IntOp.cmpi .slt (startWord (i 0).val) (ends m (ix1 (7 : Fin 8)))).setWidth 32 := by
  refine Eq.trans ?_ (valid_entry m ⟨(i 0).val, (i 0).isLt⟩)
  refine congrArg (tbl m 1) (funext fun a => Fin.ext ?_)
  have hi : (i 0).val < 72 := (i 0).isLt
  have hv : (Scalar.indexCast (BitVec.ofNat 32 (i 0).val) : Index).toNat = (i 0).val := by
    simp [Scalar.indexCast]; omega
  match a with
  | ⟨0, _⟩ => exact hv

/-- The body's condition at a grid point. -/
theorem cond_iff (t : Fin grid0.N) :
    cond0_1 (grid0.coords t) (tbM0_1.view.readAt (Elt Ideal) (Rect.unit (s := S72) (k0_off1 (grid0.coords t)) S1.size (k0_off1_inb (grid0.coords t))).toLoadRect (tbl m 1) (Shape.Idx.first (numel1_S1.symm ▸ Nat.one_pos)))
      ↔ IntOp.cmpi .slt (startWord (t.val / 2)) (ends m (ix1 (7 : Fin 8))) = 1#1 := by
  rw [valid_load, cond_word, (coords t).1]

/-- Which block each window stages at grid point `t`: row block `t / 2` of the activations and of the result, and
    half `t % 2` of the hidden axis of the block's expert. -/
theorem idx0 (hO : Ok m) (t : Fin (cfgM m hO).N) : ((cfgM m hO).win 0).index t = ![t.val / 2, 0] :=
  (by decide +kernel : ∀ t : Fin grid0.N, cc0_transform_0 (grid0.coords t) = ![t.val / 2, 0]) t
theorem idx4 (hO : Ok m) (t : Fin (cfgM m hO).N) : ((cfgM m hO).win 4).index t = ![t.val / 2, 0] :=
  (by decide +kernel : ∀ t : Fin grid0.N, cc0_transform_4 (grid0.coords t) = ![t.val / 2, 0]) t
theorem idx1 (hO : Ok m) (t : Fin (cfgM m hO).N) : ((cfgM m hO).win 1).index t = ![expertOf (ends m) (t.val / 2), 0, t.val % 2] := by
  have h := index_up m (grid0.coords t)
  rw [(coords t).1, (coords t).2] at h
  exact h
theorem idx2 (hO : Ok m) (t : Fin (cfgM m hO).N) : ((cfgM m hO).win 2).index t = ![expertOf (ends m) (t.val / 2), 0, t.val % 2] :=
  idx1 m hO t
theorem idx3 (hO : Ok m) (t : Fin (cfgM m hO).N) : ((cfgM m hO).win 3).index t = ![expertOf (ends m) (t.val / 2), t.val % 2, 0] := by
  have h := index_down m (grid0.coords t)
  rw [(coords t).1, (coords t).2] at h
  exact h

/-- The blocks written back cover the result: block `b` is written at the point `2 b + 1`. -/
theorem covers (hO : Ok m) : ((cfgM m hO).win 4).Covers := by
  refine ⟨fun a => (by decide : ∀ a : Fin 2, 0 < S512x1024.size a) a, fun β => ?_⟩
  have hb : (β (0 : Fin 2)).val < (36864 + 512 - 1) / 512 := (β (0 : Fin 2)).isLt
  have hc : (β (1 : Fin 2)).val < (1024 + 1024 - 1) / 1024 := (β (1 : Fin 2)).isLt
  refine ⟨⟨2 * (β (0 : Fin 2)).val + 1, by show _ < 144; omega⟩, (flush0_4 (adm m hO) _).mpr (by show (2 * _ + 1) % 2 = 1; omega),
    fun a => ⟨?_, Or.inl ?_⟩⟩
  · rw [idx4]
    match a with
    | ⟨0, _⟩ => show (2 * (β (0 : Fin 2)).val + 1) / 2 = (β (0 : Fin 2)).val; omega
    | ⟨1, _⟩ => show 0 = (β (1 : Fin 2)).val; omega
  · rfl

end Cert.GroupedIdeal.Result

end
-- ==== Proof.GroupedIdealBlocks.lean ====
/- The grouped expert feed-forward's blocks at coordinates: which element of which argument array each element of a
   staged block is. -/
module

public import proofs.«01_k».proof.Proof.GroupedIdealWords
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupedIdeal.Result

open Cert.GroupedIdeal Cert.GroupedIdeal.Gen Cert.GroupedIdeal.Tables Cert.GroupedRoute

variable (m : (ℓ : Loc nD τ sig) → Buf (Elt Ideal) ℓ)

/-- Row `r` of the block of rows at point `t`, in the array. -/
abbrev rowAt (hO : Ok m) (t : Fin (cfgM m hO).N) (r : Fin 512) : Fin 36864 :=
  ⟨t.val / 2 * 512 + r.val, by have : t.val < 144 := t.isLt; omega⟩

/-- Column `f` of the half of the hidden axis at point `t`, in the array. -/
abbrev colAt (hO : Ok m) (t : Fin (cfgM m hO).N) (f : Fin 1408) : Fin 2816 :=
  ⟨t.val % 2 * 1408 + f.val, by omega⟩

/-- The expert of the block of rows at point `t`. -/
abbrev expertAt (hO : Ok m) (t : Fin (cfgM m hO).N) : Fin 8 :=
  ⟨expertOf (ends m) (t.val / 2), expertOf_lt _ _⟩

/-- The result's block at point `t` is rows `512 (t / 2) …`. -/
theorem place4 (hO : Ok m) (t : Fin (cfgM m hO).N) (r : Fin 512) (j : Fin 1024) :
    (((cfgM m hO).win 4).blk t).view.emb (ix2 r j) = (ix2 (rowAt m hO t r) j : S36864x1024.Idx) :=
  funext fun a => Fin.ext <| by
    refine (Pipeline.Window.rect_emb_val ((cfgM m hO).win 4) t _ a rfl).trans ?_
    rw [idx4]
    match a with
    | ⟨0, _⟩ => rfl
    | ⟨1, _⟩ => exact Nat.zero_add j.val

/-- The activations' block. -/
theorem blk0 (hO : Ok m) (c : Dev nD) (t : Fin (cfgM m hO).N) (r : Fin 512) (k : Fin 1024) :
    iblk m hO c 0 t (ix2 r k) = m ((c : Thread nD τ).loc main_arg0) (ix2 (rowAt m hO t r) k) := by
  have e : (((cfgM m hO).win 0).blk t).view.emb (ix2 r k) = (ix2 (rowAt m hO t r) k : S36864x1024.Idx) :=
    funext fun a => Fin.ext <| by
      refine (Pipeline.Window.rect_emb_val ((cfgM m hO).win 0) t _ a rfl).trans ?_
      rw [idx0]
      match a with
      | ⟨0, _⟩ => rfl
      | ⟨1, _⟩ => exact Nat.zero_add k.val
  refine (congrArg (V m c main_arg0) e).trans ?_
  obtain rfl : c = 0 := Subsingleton.elim _ _
  unfold V; after_results

/-- The gate weights' block: the block's expert, half `t % 2` of the hidden axis. -/
theorem blk1 (hO : Ok m) (c : Dev nD) (t : Fin (cfgM m hO).N) (k : Fin 1024) (f : Fin 1408) :
    iblk m hO c 1 t (ix3 (0 : Fin 1) k f)
      = m ((c : Thread nD τ).loc main_arg2) (ix3 (expertAt m hO t) k (colAt m hO t f)) := by
  have e : (((cfgM m hO).win 1).blk t).view.emb (ix3 (0 : Fin 1) k f) = (ix3 (expertAt m hO t) k (colAt m hO t f) : S8x1024x2816.Idx) :=
    funext fun a => Fin.ext <| by
      refine (Pipeline.Window.rect_emb_val ((cfgM m hO).win 1) t _ a rfl).trans ?_
      rw [idx1]
      match a with
      | ⟨0, _⟩ => exact Nat.mul_one _
      | ⟨1, _⟩ => exact Nat.zero_add k.val
      | ⟨2, _⟩ => rfl
  refine (congrArg (V m c main_v17) e).trans ?_
  obtain rfl : c = 0 := Subsingleton.elim _ _
  unfold V; after_results
  pointwise []

/-- The up weights' block. -/
theorem blk2 (hO : Ok m) (c : Dev nD) (t : Fin (cfgM m hO).N) (k : Fin 1024) (f : Fin 1408) :
    iblk m hO c 2 t (ix3 (0 : Fin 1) k f)
      = m ((c : Thread nD τ).loc main_arg3) (ix3 (expertAt m hO t) k (colAt m hO t f)) := by
  have e : (((cfgM m hO).win 2).blk t).view.emb (ix3 (0 : Fin 1) k f) = (ix3 (expertAt m hO t) k (colAt m hO t f) : S8x1024x2816.Idx) :=
    funext fun a => Fin.ext <| by
      refine (Pipeline.Window.rect_emb_val ((cfgM m hO).win 2) t _ a rfl).trans ?_
      rw [idx2]
      match a with
      | ⟨0, _⟩ => exact Nat.mul_one _
      | ⟨1, _⟩ => exact Nat.zero_add k.val
      | ⟨2, _⟩ => rfl
  refine (congrArg (V m c main_v18) e).trans ?_
  obtain rfl : c = 0 := Subsingleton.elim _ _
  unfold V; after_results
  pointwise []

/-- The down weights' block. -/
theorem blk3 (hO : Ok m) (c : Dev nD) (t : Fin (cfgM m hO).N) (f : Fin 1408) (j : Fin 1024) :
    iblk m hO c 3 t (ix3 (0 : Fin 1) f j)
      = m ((c : Thread nD τ).loc main_arg4) (ix3 (expertAt m hO t) (colAt m hO t f) j) := by
  have e : (((cfgM m hO).win 3).blk t).view.emb (ix3 (0 : Fin 1) f j) = (ix3 (expertAt m hO t) (colAt m hO t f) j : S8x2816x1024.Idx) :=
    funext fun a => Fin.ext <| by
      refine (Pipeline.Window.rect_emb_val ((cfgM m hO).win 3) t _ a rfl).trans ?_
      rw [idx3]
      match a with
      | ⟨0, _⟩ => exact Nat.mul_one _
      | ⟨1, _⟩ => rfl
      | ⟨2, _⟩ => exact Nat.zero_add j.val
  refine (congrArg (V m c main_v19) e).trans ?_
  obtain rfl : c = 0 := Subsingleton.elim _ _
  unfold V; after_results
  pointwise []

end Cert.GroupedIdeal.Result

end
-- ==== Proof.GroupedIdealRead.lean ====
/- The grouped reference read where the kernel writes: the expert whose weights block `b` takes, those
   weights, and the reference's last lines at row `r` of block `b`. -/
module

public import proofs.«01_k».proof.Proof.Gen.GroupedRefIdeal.Read
public import proofs.«01_k».proof.Proof.GroupedRoute
public import Idealize.ShloMosaic.Lib.Pointwise

@[expose] public section

set_option maxRecDepth 16384

noncomputable section

open Idealize.ShloMosaic

namespace Cert.GroupedRefIdeal.At

open Cert.GroupedRefIdeal Cert.GroupedRefIdeal.Read Cert.GroupedRoute

attribute [local instance] Cert.GroupedRefIdeal.Gen.facts

/-- The expert of block `b`, as the reference computes it. -/
theorem expert_at (pe : IVec S8 32) (b : Fin 72) : val_main_v5 (F := Ideal) pe (ix1 b) = BitVec.ofNat 32 (expertOf pe b.val) := by
  refine count_first pe _ _ _ _ b fun q => ?_
  pointwise [val_main_call0_call0_v4, val_main_call0_call0_v3, val_main_call0_call0_v2, val_main_call0_call0_v1,
    val_main_call0_call0_v0, val_main_v2, val_main_v1, val_main_c, val_main_v0]

/-- The start of each of the three gathers along the experts' axis is that expert. -/
theorem start_gate (pe : IVec S8 32) (b : Fin 72) :
    val_main_v21 (F := Ideal) pe (ix2 b (0 : Fin 3)) = BitVec.ofNat 32 (expertOf pe b.val) := by
  rw [← expert_wrap pe b.val (IntOp.addi (BitVec.ofNat 32 (expertOf pe b.val)) 8#32), ← expert_at]
  pointwise [val_main_v21, val_main_v18, val_main_v11, val_main_v10, val_main_v9, val_main_c_2, val_main_v8, val_main_v7, val_main_c_1]

theorem start_up (pe : IVec S8 32) (b : Fin 72) :
    val_main_v38 (F := Ideal) pe (ix2 b (0 : Fin 3)) = BitVec.ofNat 32 (expertOf pe b.val) := by
  rw [← expert_wrap pe b.val (IntOp.addi (BitVec.ofNat 32 (expertOf pe b.val)) 8#32), ← expert_at]
  pointwise [val_main_v38, val_main_v35, val_main_v28, val_main_v27, val_main_v26, val_main_c_14, val_main_v25, val_main_v24, val_main_c_13]

theorem start_down (pe : IVec S8 32) (b : Fin 72) :
    val_main_v55 (F := Ideal) pe (ix2 b (0 : Fin 3)) = BitVec.ofNat 32 (expertOf pe b.val) := by
  rw [← expert_wrap pe b.val (IntOp.addi (BitVec.ofNat 32 (expertOf pe b.val)) 8#32), ← expert_at]
  pointwise [val_main_v55, val_main_v52, val_main_v45, val_main_v44, val_main_v43, val_main_c_26, val_main_v42, val_main_v41, val_main_c_25]

/-- The gate weights block `b` takes. -/
theorem gate_at (pe : IVec S8 32) (w : FVec Ideal S8x1024x2816 .f32) (b : Fin 72) (k : Fin 1024) (f : Fin 2816) :
    val_main_v23 (F := Ideal) pe w (ix3 b k f) = w (ix3 ⟨expertOf pe b.val, expertOf_lt _ _⟩ k f) := by
  rw [← gather_expert gather_S8x1024x2816_S72x3_S72x1x1024x2816_123_n_n_n_012_1_110242816 rfl rfl rfl rfl rfl rfl
    w (val_main_v21 (F := Ideal) pe) b k f ⟨expertOf pe b.val, expertOf_lt _ _⟩ (by rw [start_gate]; exact expert_start _ _)]
  pointwise [val_main_v23, val_main_v22]

theorem up_at (pe : IVec S8 32) (w : FVec Ideal S8x1024x2816 .f32) (b : Fin 72) (k : Fin 1024) (f : Fin 2816) :
    val_main_v40 (F := Ideal) pe w (ix3 b k f) = w (ix3 ⟨expertOf pe b.val, expertOf_lt _ _⟩ k f) := by
  rw [← gather_expert gather_S8x1024x2816_S72x3_S72x1x1024x2816_123_n_n_n_012_1_110242816 rfl rfl rfl rfl rfl rfl
    w (val_main_v38 (F := Ideal) pe) b k f ⟨expertOf pe b.val, expertOf_lt _ _⟩ (by rw [start_up]; exact expert_start _ _)]
  pointwise [val_main_v40, val_main_v39]

theorem down_at (pe : IVec S8 32) (w : FVec Ideal S8x2816x1024 .f32) (b : Fin 72) (k : Fin 2816) (f : Fin 1024) :
    val_main_v57 (F := Ideal) pe w (ix3 b k f) = w (ix3 ⟨expertOf pe b.val, expertOf_lt _ _⟩ k f) := by
  rw [← gather_expert gather_S8x2816x1024_S72x3_S72x1x2816x1024_123_n_n_n_012_1_128161024 rfl rfl rfl rfl rfl rfl
    w (val_main_v55 (F := Ideal) pe) b k f ⟨expertOf pe b.val, expertOf_lt _ _⟩ (by rw [start_down]; exact expert_start _ _)]
  pointwise [val_main_v57, val_main_v56]

/-- Whether block `b` holds rows, as the reference computes it. -/
theorem valid_at (pe : IVec S8 32) (b : Fin 72) :
    val_main_v66 (F := Ideal) pe (ix1 b) = IntOp.cmpi .slt (startWord b.val) (pe (ix1 (7 : Fin 8))) := by
  pointwise [val_main_v66, val_main_v65, val_main_v64, val_main_v63, val_main_v2, val_main_v1, val_main_c, val_main_v0]

end Cert.GroupedRefIdeal.At

end
-- ==== Proof.GroupedIdealValue.lean ====
/- The grouped expert feed-forward: after the kernel's run, block `b` of the result is
   `(silu(x · w_gate[e]) * (x · w_up[e])) · w_down[e]` with `e` the block's expert, and zero where the block
   holds no rows, the reference's own term. The kernel walks the hidden axis in two halves and adds the two
   partial products in a scratch accumulator that starts at zero. -/
module

public import proofs.«01_k».proof.Proof.GroupedIdealFrame
public import proofs.«01_k».proof.Proof.GroupedIdealBlocks
public import proofs.«01_k».proof.Proof.GroupedIdealRead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupedIdeal.Result

open Cert.GroupedIdeal Cert.GroupedIdeal.Gen Cert.GroupedIdeal.Tables Cert.GroupedRoute

variable (m : (ℓ : Loc nD τ sig) → Buf (Elt Ideal) ℓ)

/-- The experts' rows, as the reference composes them. -/
abbrev grouped (x : FVec Ideal S36864x1024 .f32) (pe : IVec S8 32) (wg wu : FVec Ideal S8x1024x2816 .f32)
    (wd : FVec Ideal S8x2816x1024 .f32) : FVec Ideal S36864x1024 .f32 :=
  Cert.GroupedRefIdeal.Read.val_main_v69 (F := Ideal) x pe wg wu wd

/-- The reference's rows over the argument arrays the run starts from. -/
abbrev groupedOf (c : Dev nD) : FVec Ideal S36864x1024 .f32 :=
  grouped (m ((c : Thread nD τ).loc main_arg0)) (m ((c : Thread nD τ).loc main_arg1))
    (m ((c : Thread nD τ).loc main_arg2)) (m ((c : Thread nD τ).loc main_arg3))
    (m ((c : Thread nD τ).loc main_arg4))

open Cert.GroupedRefIdeal.Read Cert.GroupedRefIdeal.At in
/-- Row `r` of block `b` of the activations is row `512 b + r`. -/
theorem rows_at (x : FVec Ideal S36864x1024 .f32) (b : Fin 72) (r : Fin 512) (k : Fin 1024) :
    val_main_v6 (F := Ideal) x (ix3 b r k) = x (ix2 ⟨b.val * 512 + r.val, by omega⟩ k) := by
  have e : idx_main_v6 (ix3 b r k) = ix2 ⟨b.val * 512 + r.val, by omega⟩ k := funext fun a => Fin.ext (by
    have hk := k.isLt
    match a with
    | ⟨0, _⟩ => show ((b.val * 512 + r.val) * 1024 + k.val) / 1024 = b.val * 512 + r.val; omega
    | ⟨1, _⟩ => show ((b.val * 512 + r.val) * 1024 + k.val) % 1024 = k.val; omega)
  rw [val_main_v6_apply, e]

open Cert.GroupedRefIdeal.Read Cert.GroupedRefIdeal.At in
/-- Row `512 b + r` of the result is row `r` of block `b`. -/
theorem result_at (x : FVec Ideal S36864x1024 .f32) (pe : IVec S8 32) (wg wu : FVec Ideal S8x1024x2816 .f32)
    (wd : FVec Ideal S8x2816x1024 .f32) (b : Fin 72) (r : Fin 512) (j : Fin 1024) (i : Fin 36864)
    (hi : i.val = b.val * 512 + r.val) :
    grouped x pe wg wu wd (ix2 i j) = val_main_v68 (F := Ideal) x pe wg wu wd (ix3 b r j) := by
  have e : idx_main_v69 (ix2 i j) = ix3 b r j := funext fun a => Fin.ext (by
    have hb := b.isLt
    have hr := r.isLt
    have hj := j.isLt
    match a with
    | ⟨0, _⟩ => show (i.val * 1024 + j.val) / 524288 = b.val; omega
    | ⟨1, _⟩ => show (i.val * 1024 + j.val) / 1024 % 512 = r.val; omega
    | ⟨2, _⟩ => show (i.val * 1024 + j.val) % 1024 = j.val; omega)
  unfold grouped
  rw [val_main_v69_apply, e]

/-- The two halves' contributions, with each staged block replaced by its contents. -/
theorem halves_congr {x x' y y' : FVec Ideal S512x1024 .f32} {g g' u u' p p' q q' : FVec Ideal S1x1024x1408 .bf16}
    {d d' e e' : FVec Ideal S1x1408x1024 .bf16} (hx : x = x') (hg : g = g') (hu : u = u') (hd : d = d')
    (hy : y = y') (hp : p = p') (hq : q = q') (he : e = e') (i : S512x1024.Idx) :
    k0_pay2 (F := Ideal) x g u (k0_pay2 (F := Ideal) y p q (k0_pay1 (F := Ideal)) e) d i
      = k0_pay2 (F := Ideal) x' g' u' (k0_pay2 (F := Ideal) y' p' q' (k0_pay1 (F := Ideal)) e') d' i := by
  subst hx hg hu hd hy hp hq he; rfl

open Cert.GroupedRefIdeal.Read Cert.GroupedRefIdeal.At in
/-- The result array after the run. -/
theorem final (hO : Ok m) (c : Dev nD) : (dats m hO 0 c).arrAt 4 (cfgM m hO).N = groupedOf m c := by
  refine (dats m hO 0 c).arrAt_eq_of_covers 4 _ (covers m hO) fun t hf y => ?_
  obtain ⟨r, j, rfl⟩ : ∃ (r : Fin 512) (j : Fin 1024), y = ix2 r j := ⟨y (0 : Fin 2), y (1 : Fin 2), by ext a; match a with | ⟨0, _⟩ => rfl | ⟨1, _⟩ => rfl⟩
  have hb : t.val / 2 < 72 := by have : t.val < 144 := t.isLt; omega
  refine Eq.trans ?_ ((congrArg (groupedOf m c) (place4 m hO t r j)).trans
    (result_at _ _ _ _ _ ⟨t.val / 2, hb⟩ r j _ rfl)).symm
  blk_simp
  have h1 : t.val % 2 = 1 := (flush0_4 (adm m hO) t).mp hf
  have h0 : ¬t.val % 2 = 0 := by omega
  have hp : t.val - 1 < (cfgM m hO).N := Nat.lt_of_le_of_lt (Nat.sub_le _ _) t.isLt
  have hd : (t.val - 1) / 2 = t.val / 2 := by omega
  by_cases hv : IntOp.cmpi .slt (startWord (t.val / 2)) (ends m (ix1 (7 : Fin 8))) = 1#1
  · have hA := outsAt0_A m hO c ⟨t.val - 1, hp⟩ (by show (t.val - 1) % 2 = 0; omega)
      ((cond_iff m ⟨t.val - 1, hp⟩).mpr (by show IntOp.cmpi .slt (startWord ((t.val - 1) / 2)) _ = 1#1; rw [hd]; exact hv))
      (by show ¬(t.val - 1) % 2 = 1; omega)
    dsimp only at hA
    rw [after0_4, outsAt0_C m hO c t h0 ((cond_iff m t).mpr hv) h1, hA]; frame_out
    rw [read_unread_whole]
    refine (halves_congr ((hs0_0 m hO t).read_unread (iblk m hO c 0 t)) ((hs0_1 m hO t).read_unread (iblk m hO c 1 t))
      ((hs0_2 m hO t).read_unread (iblk m hO c 2 t)) ((hs0_3 m hO t).read_unread (iblk m hO c 3 t))
      ((hs0_0 m hO ⟨t.val - 1, hp⟩).read_unread (iblk m hO c 0 ⟨t.val - 1, hp⟩))
      ((hs0_1 m hO ⟨t.val - 1, hp⟩).read_unread (iblk m hO c 1 ⟨t.val - 1, hp⟩))
      ((hs0_2 m hO ⟨t.val - 1, hp⟩).read_unread (iblk m hO c 2 ⟨t.val - 1, hp⟩))
      ((hs0_3 m hO ⟨t.val - 1, hp⟩).read_unread (iblk m hO c 3 ⟨t.val - 1, hp⟩)) _).trans ?_
    pointwise [k0_pay2, k0_pay1, val_main_v68, val_main_call2_v1, val_main_call2_v2, val_main_call2_v0, val_main_cst, val_main_v67, valid_at,
      val_main_v62, val_main_v61, val_main_v60, val_main_v59, val_main_v58, down_at, up_at, gate_at, rows_at, val_main_call1_v5, val_main_call1_v4,
      val_main_call1_cst_0, val_main_call1_v3, val_main_call1_v2, val_main_call1_cst, val_main_call1_v1, val_main_call1_v0]
    obtain rfl : c = 0 := Subsingleton.elim _ _
    refine Eq.trans ?_ (if_pos hv).symm
    have hr : rowAt m hO ⟨t.val - 1, hp⟩ r = rowAt m hO t r := Fin.ext (by show (t.val - 1) / 2 * 512 + r.val = _; rw [hd])
    have he : expertAt m hO ⟨t.val - 1, hp⟩ = expertAt m hO t := Fin.ext (by show expertOf _ ((t.val - 1) / 2) = _; rw [hd])
    have hl (f : Fin 1408) : colAt m hO ⟨t.val - 1, hp⟩ f = Fin.castAdd 1408 f :=
      Fin.ext (by show (t.val - 1) % 2 * 1408 + f.val = f.val; omega)
    have hu (f : Fin 1408) : colAt m hO t f = Fin.natAdd 1408 f :=
      Fin.ext (by show t.val % 2 * 1408 + f.val = 1408 + f.val; omega)
    simp only [zero_sub, blk0, blk1, blk2, blk3, hr, he, hl, hu]
    rw [Fin.sum_univ_two_halves 1408 1408 rfl]
    rfl
  · have hB := outsAt0_B m hO c ⟨t.val - 1, hp⟩ (by show (t.val - 1) % 2 = 0; omega)
      (fun h => hv (by have := (cond_iff m ⟨t.val - 1, hp⟩).mp h; dsimp only at this; rw [hd] at this; exact this))
      (by show ¬(t.val - 1) % 2 = 1; omega)
    dsimp only at hB
    rw [after0_4, outsAt0_D m hO c t h0 (fun h => hv ((cond_iff m t).mp h)) h1, hB]; frame_out
    rw [read_unread_whole]
    pointwise [k0_pay1, val_main_v68, val_main_call2_v1, val_main_call2_v2, val_main_call2_v0, val_main_cst, val_main_v67, valid_at]
    obtain rfl : c = 0 := Subsingleton.elim _ _
    refine Eq.trans ?_ (if_neg hv).symm
    simp only [id_eq]
    pointwise []

end Cert.GroupedIdeal.Result

end
-- ==== Proof.GroupedIdealRun.lean ====
/- The run of the routed experts' feed-forward: after it the result array holds the reference's term and the
   arguments are as they were. -/
module

public import proofs.«01_k».proof.Proof.GroupedIdealValue

@[expose] public section

set_option maxRecDepth 16384

noncomputable section

open Idealize.ShloMosaic Idealize.ShloMosaic.TcCoe Idealize.SL.Sem

namespace Cert.GroupedIdeal.Result

open Cert.GroupedIdeal Cert.GroupedIdeal.Gen

variable (m : (ℓ : Loc nD τ sig) → Buf (Elt Ideal) ℓ) (ρ : Dev nD → PrngReg)

/-- The result array and the arguments after the run. -/
theorem run_result (hO : Ok m) : θ_run (defs (F := Ideal)) (onTc (τ := τ) (main (F := Ideal))) ⟨m, fun _ => 0, ρ⟩ (fun r => ∀ c : Dev nD,
      r.2.mem ((c.tc : Thread nD τ).loc main_v20) = groupedOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (final m hO c), h.2 c⟩)
    (θ_run_and (run_main m ρ hO) (unchanged m ρ hO))

/-- The reference's term of equal arguments. -/
theorem ref_result (m' : (ℓ : Loc Cert.GroupedRefIdeal.nD Cert.GroupedRefIdeal.τ Cert.GroupedRefIdeal.sig) → Buf (Elt Ideal) ℓ) (c : Dev nD)
    (h0 : m' ((c.tc : Thread Cert.GroupedRefIdeal.nD Cert.GroupedRefIdeal.τ).loc Cert.GroupedRefIdeal.main_arg0) = m ((c.tc : Thread nD τ).loc main_arg0))
    (h1 : m' ((c.tc : Thread Cert.GroupedRefIdeal.nD Cert.GroupedRefIdeal.τ).loc Cert.GroupedRefIdeal.main_arg1) = m ((c.tc : Thread nD τ).loc main_arg1))
    (h2 : m' ((c.tc : Thread Cert.GroupedRefIdeal.nD Cert.GroupedRefIdeal.τ).loc Cert.GroupedRefIdeal.main_arg2) = m ((c.tc : Thread nD τ).loc main_arg2))
    (h3 : m' ((c.tc : Thread Cert.GroupedRefIdeal.nD Cert.GroupedRefIdeal.τ).loc Cert.GroupedRefIdeal.main_arg3) = m ((c.tc : Thread nD τ).loc main_arg3))
    (h4 : m' ((c.tc : Thread Cert.GroupedRefIdeal.nD Cert.GroupedRefIdeal.τ).loc Cert.GroupedRefIdeal.main_arg4) = m ((c.tc : Thread nD τ).loc main_arg4)) :
    Cert.GroupedRefIdeal.Value.res_main_v69 m' c = groupedOf m c := by
  rw [Cert.GroupedRefIdeal.Read.val_main_v69_eq, h0, h1, h2, h3, h4]

end Cert.GroupedIdeal.Result

end
-- ==== Proof.ProjMlValue.lean ====
/- The projection in front of the gated-linear-attention scan: after the kernel's run the result
   array is `rmsnorm(x, g) · w + b`, the reference's own term of the four arguments. -/
module

public import proofs.«01_k».proof.Proof.Gen.ProjMlIdeal.Value
public import proofs.«01_k».proof.Proof.Gen.ProjMlRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjMlIdeal.Result

open Cert.ProjMlIdeal Cert.ProjMlIdeal.Gen

variable (m : (ℓ : Loc nD τ sig) → Buf (Elt Ideal) ℓ)

/-- The normalised, projected and biased rows, as the reference composes them. -/
abbrev projected (x : FVec Ideal S16384x1024 .f32) (g : FVec Ideal S1024 .f32)
    (w : FVec Ideal S1024x2176 .f32) (b : FVec Ideal S1x2176 .f32) : FVec Ideal S16384x2176 .f32 :=
  Cert.ProjMlRefIdeal.Read.val_main_v15 (F := Ideal) x g w b

/-- Which block each window stages at grid point `t`: row block `t` of the activations and of the
    result, the whole of the gain, the weights and the bias. -/
theorem idx : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

/-- One element of the block that point `t` stores is the reference's element at its place. -/
theorem point (c : Dev nD) (t : Fin cfg0.N) (y : S512x2176.Idx) :
    k0_pay1 (F := Ideal) (iblk m c 0 t) (iblk m c 1 t) (iblk m c 2 t) (iblk m c 3 t) y
      = projected (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, projected, Cert.ProjMlRefIdeal.Read.val_main_v15, Cert.ProjMlRefIdeal.Read.val_main_v14,
    Cert.ProjMlRefIdeal.Read.val_main_v13, Cert.ProjMlRefIdeal.Read.val_main_v12, Cert.ProjMlRefIdeal.Read.val_main_v11,
    Cert.ProjMlRefIdeal.Read.val_main_v10, Cert.ProjMlRefIdeal.Read.val_main_v9, Cert.ProjMlRefIdeal.Read.val_main_v8,
    Cert.ProjMlRefIdeal.Read.val_main_v7, Cert.ProjMlRefIdeal.Read.val_main_v6, Cert.ProjMlRefIdeal.Read.val_main_v5,
    Cert.ProjMlRefIdeal.Read.val_main_v4, Cert.ProjMlRefIdeal.Read.val_main_v3, Cert.ProjMlRefIdeal.Read.val_main_v2,
    Cert.ProjMlRefIdeal.Read.val_main_v1, Cert.ProjMlRefIdeal.Read.val_main_v0, Cert.ProjMlRefIdeal.Read.val_main_cst,
    Cert.ProjMlRefIdeal.Read.val_main_cst_0, Cert.ProjMlRefIdeal.Read.val_main_cst_1]
  blk_point [iblk, V, idx t]

/-- The result array after the run. -/
theorem final (c : Dev nD) : (dats m 0 c).arrAt 4 (cfgs 0).N
    = projected (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.ProjMlIdeal.Result

end
-- ==== Proof.RopeRows.lean ====
/- The rotated rows of the reference, read at one row and one column. -/
module

public import proofs.«01_k».proof.Proof.Gen.RopeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RopeRows

open Cert.RopeRefIdeal Cert.RopeRefIdeal.Read

variable (x : FVec Ideal S16384x1024 .f32) (g : FVec Ideal S1024 .f32)
  (w : FVec Ideal S1024x1536 .f32) (b : FVec Ideal S1x1536 .f32)

/-- The projected rows. -/
abbrev rows : FVec Ideal S16384x1536 .f32 := val_main_v15 (F := Ideal) x g w b

/-- Row `r`, column `l` of the 512 columns starting at `o`, rotated within its head of 64: the first eight
    entries of a head against the next eight, these back against the first, the rest as they are. -/
abbrev turn (z : FVec Ideal S16384x1536 .f32) (co si : FVec Ideal S8192x8 .f32) (o : Nat) (ho : o + 512 ≤ 1536)
    (r : Fin 16384) (l : Fin 512) : Ideal .f32 :=
  if h : l.val % 64 < 8 then
    z (ix2 r ⟨o + l.val, by omega⟩) * co (ix2 ⟨r.val % 8192, by omega⟩ ⟨l.val % 64, h⟩)
      - z (ix2 r ⟨o + l.val + 8, by omega⟩) * si (ix2 ⟨r.val % 8192, by omega⟩ ⟨l.val % 64, h⟩)
  else if h' : l.val % 64 < 16 then
    z (ix2 r ⟨o + l.val, by omega⟩) * co (ix2 ⟨r.val % 8192, by omega⟩ ⟨l.val % 64 - 8, by omega⟩)
      + z (ix2 r ⟨o + l.val - 8, by omega⟩) * si (ix2 ⟨r.val % 8192, by omega⟩ ⟨l.val % 64 - 8, by omega⟩)
  else z (ix2 r ⟨o + l.val, by omega⟩)

/-- An element of the rows at two columns of one number. -/
theorem at_col (z : FVec Ideal S16384x1536 .f32) (r : Fin 16384) {i j : Nat} (hi : i < 1536) (hj : j < 1536) (h : i = j) :
    z (ix2 r ⟨i, hi⟩) = z (ix2 r ⟨j, hj⟩) := by subst h; rfl

/-- The rotation of one entry, written with the tests and the columns in the order the reference has them. -/
theorem turn_of (z : FVec Ideal S16384x1536 .f32) (co si : FVec Ideal S8192x8 .f32) (o : Nat) (ho : o + 512 ≤ 1536)
    (r : Fin 16384) (l : Fin 512) (r' : Fin 16384) (s : Fin 8192) (d a0 a1 a2 a3 a4 : Nat)
    (b0 : d < 16 → d < 8 → a0 < 1536) (b1 : d < 16 → d < 8 → a1 < 1536)
    (b2 : d < 16 → ¬ d < 8 → a2 < 1536) (b3 : d < 16 → ¬ d < 8 → a3 < 1536) (b4 : ¬ d < 16 → a4 < 1536)
    (hd : d = l.val % 64) (hr : r' = r) (hs : s = ⟨r.val % 8192, by omega⟩)
    (e0 : a0 = o + l.val) (e1 : d < 8 → a1 = o + l.val + 8) (e2 : ¬ d < 8 → a2 = o + l.val)
    (e3 : ¬ d < 8 → a3 = o + l.val - 8) (e4 : ¬ d < 16 → a4 = o + l.val) :
    (if h : d < 16 then
        if h' : d < 8 then z (ix2 r' ⟨a0, b0 h h'⟩) * co (ix2 s ⟨d, h'⟩) - z (ix2 r' ⟨a1, b1 h h'⟩) * si (ix2 s ⟨d, h'⟩)
        else z (ix2 r' ⟨a2, b2 h h'⟩) * co (ix2 s ⟨d - 8, by omega⟩) + z (ix2 r' ⟨a3, b3 h h'⟩) * si (ix2 s ⟨d - 8, by omega⟩)
      else z (ix2 r' ⟨a4, b4 h⟩)) = turn z co si o ho r l := by
  subst hd hr hs
  unfold turn
  by_cases h : l.val % 64 < 8
  · have h' : l.val % 64 < 16 := by omega
    simp only [h, h', dif_pos]
    rw [at_col z r' _ _ e0, at_col z r' _ _ (e1 h)]
  · by_cases h' : l.val % 64 < 16
    · simp only [h, h', dif_pos, dif_neg, not_false_eq_true]
      rw [at_col z r' _ _ (e2 h), at_col z r' _ _ (e3 h)]
    · simp only [h, h', dif_neg, not_false_eq_true]
      exact at_col z r' _ _ (e4 h')

/-- A result of the queries. -/
theorem q_at (r : Fin 16384) (l : Fin 512) :
    val_main_v105 (F := Ideal) x g w b (ix2 r l)
      = turn (rows x g w b) (val_main_v35 (F := Ideal)) (val_main_v36 (F := Ideal)) 0 (by decide) r l
        * Ideal.ofBits .f32 0x3E000000#32 := by
  pointwise [val_main_v105, val_main_v104, val_main_v103, val_main_v102, val_main_v58, val_main_v57, val_main_cst_5,
    val_main_v56, val_main_v55, val_main_v54, val_main_v53, val_main_v52, val_main_v51, val_main_v50,
    val_main_v49, val_main_v48, val_main_v47, val_main_v46, val_main_v45, val_main_v44, val_main_v43,
    val_main_v42, val_main_v41, val_main_v40, val_main_v39, val_main_v38, val_main_v37,
    val_main_v20, val_main_v19, val_main_v18, val_main_v16]
  refine congrArg (· * Ideal.ofBits .f32 0x3E000000#32) ?_
  exact turn_of _ _ _ 0 _ r l r _ _ _ _ _ _ _ _ _ _ _ _ rfl rfl rfl
    (by omega) (fun _ => by omega) (fun _ => by omega) (fun _ => by omega) (fun _ => by omega)

/-- The keys' cosines are the queries'. -/
theorem cos_k : val_main_v76 (F := Ideal) = val_main_v35 (F := Ideal) := rfl

/-- The keys' sines are the queries'. -/
theorem sin_k : val_main_v77 (F := Ideal) = val_main_v36 (F := Ideal) := rfl

/-- A rotated key of head `h`, before the heads are laid beside each other. -/
theorem head_k (e : Fin 2) (h : Fin 8) (s : Fin 8192) (d : Fin 64) :
    val_main_v97 (F := Ideal) x g w b (ix4 e h s d)
      = turn (rows x g w b) (val_main_v35 (F := Ideal)) (val_main_v36 (F := Ideal)) 512 (by decide)
          ⟨8192 * e.val + s.val, by omega⟩ ⟨64 * h.val + d.val, by omega⟩ := by
  pointwise [
    val_main_v97, val_main_v96, val_main_v95, val_main_v94, val_main_v93, val_main_v92, val_main_v91, val_main_v90,
    val_main_v89, val_main_v88, val_main_v87, val_main_v86, val_main_v85, val_main_v84, val_main_v83,
    val_main_v82, val_main_v81, val_main_v80, val_main_v79, val_main_v78,
    val_main_v61, val_main_v60, val_main_v59, val_main_v16]
  exact turn_of _ _ _ 512 _ _ _ _ _ _ _ _ _ _ _ _ _ _ _ _ (by simp only []; omega) (Fin.ext (by simp only []; omega))
    (Fin.ext (by simp only []; omega)) (by simp only []; omega) (fun _ => by simp only []; omega)
    (fun _ => by simp only []; omega) (fun _ => by simp only []; omega) (fun _ => by simp only []; omega)

/-- A result of the keys. -/
theorem k_at (r : Fin 16384) (l : Fin 512) :
    val_main_v109 (F := Ideal) x g w b (ix2 r l)
      = turn (rows x g w b) (val_main_v35 (F := Ideal)) (val_main_v36 (F := Ideal)) 512 (by decide) r l := by
  pointwise [val_main_v109, val_main_v108, val_main_v107, val_main_v106]
  rw [head_k]
  exact congrArg₂ (turn _ _ _ 512 (by decide)) (Fin.ext (by simp only []; omega)) (Fin.ext (by simp only []; omega))

/-- A result of the values. -/
theorem v_at (r : Fin 16384) (l : Fin 512) :
    val_main_v112 (F := Ideal) x g w b (ix2 r l) = rows x g w b (ix2 r ⟨1024 + l.val, by omega⟩) := by
  pointwise [val_main_v112, val_main_v111, val_main_v110, val_main_v16]

/-- A mean of 256 rotated keys. -/
theorem mean_at (n : Fin 64) (l : Fin 512) :
    val_main_v115 (F := Ideal) x g w b (ix3 n 0 l)
      = Ideal.div (∑ k : Fin 256, turn (rows x g w b) (val_main_v35 (F := Ideal)) (val_main_v36 (F := Ideal)) 512 (by decide)
          ⟨256 * n.val + k.val, by omega⟩ l) (Ideal.ofBits .f32 0x43800000#32) := by
  pointwise [val_main_v115, val_main_v114, val_main_v113, val_main_v101, val_main_v100, val_main_cst_10, val_main_v99, val_main_cst_9, val_main_v98]
  refine congrArg (Ideal.div · (Ideal.ofBits .f32 0x43800000#32)) (Finset.sum_congr rfl fun k _ => ?_)
  rw [head_k]
  exact congrArg₂ (turn _ _ _ 512 (by decide)) (Fin.ext (by simp only []; omega)) (Fin.ext (by simp only []; omega))

end Cert.RopeRows

end
-- ==== Proof.RopeTables.lean ====
/- The three rotation tables the kernel's caller computes, entry by entry: a cosine, or one; a sine where the
   entry is turned back, or zero; a sine with its sign changed where it is turned forward, or zero. -/
module

public import proofs.«01_k».proof.Proof.Gen.RopeIdeal.Frame
public import proofs.«01_k».proof.Proof.RopeRows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RopeIdeal.Tables

open Cert.RopeIdeal Cert.RopeIdeal.Gen

/-- The cosines and sines of the positions, as the reference has them. -/
abbrev co : FVec Ideal S8192x8 .f32 := Cert.RopeRefIdeal.Read.val_main_v35 (F := Ideal)
abbrev si : FVec Ideal S8192x8 .f32 := Cert.RopeRefIdeal.Read.val_main_v36 (F := Ideal)

/-- Three pieces of one head beside each other, twice. -/
def table (p q : FVec Ideal S8192x8 .f32) (r : FVec Ideal S8192x48 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x8, p⟩, ⟨S8192x8, q⟩, ⟨S8192x48, r⟩]
      concatenates_S8192x8_S8192x8_S8192x48_S8192x64_d1) shapeCasts_S8192x64_S1x8192x1x64)) shapeCasts_S1x8192x2x64_S8192x128

/-- An entry of such a table. -/
theorem table_at (p q : FVec Ideal S8192x8 .f32) (r : FVec Ideal S8192x48 .f32) (s : Fin 8192) (j : Fin 128) :
    table p q r (ix2 s j) =
      if h : j.val % 64 < 8 then p (ix2 s ⟨j.val % 64, h⟩)
      else if h' : j.val % 64 < 16 then q (ix2 s ⟨j.val % 64 - 8, by omega⟩)
      else r (ix2 s ⟨j.val % 64 - 16, by omega⟩) := by
  pointwise [table]
  by_cases h : j.val % 64 < 8
  · simp only [h, dif_pos]
  · by_cases h' : j.val % 64 < 16
    · have h'' : j.val % 64 - 8 < 8 := by omega
      simp only [h, h', h'', dif_pos, dif_neg, not_false_eq_true]
    · have h'' : ¬ j.val % 64 - 8 < 8 := by omega
      simp only [h, h', h'', dif_neg, not_false_eq_true, Nat.sub_sub]

/-- The tail of ones. -/
abbrev ones : FVec Ideal S8192x48 .f32 := broadcastInDim S8192x48 ![] bcast_S_S8192x48 (constant (F := Ideal) S_ .f32 0x3F800000#32)
/-- The tail of zeros. -/
abbrev zeros : FVec Ideal S8192x48 .f32 := broadcastInDim S8192x48 ![] bcast_S_S8192x48 (constant (F := Ideal) S_ .f32 0x00000000#32)
/-- Eight zeros. -/
abbrev few : FVec Ideal S8192x8 .f32 := broadcastInDim S8192x8 ![] bcast_S_S8192x8 (constant (F := Ideal) S_ .f32 0x00000000#32)

theorem ones_at (i : S8192x48.Idx) : ones i = (1 : EReal) := by
  pointwise [ones]
theorem zeros_at (i : S8192x48.Idx) : zeros i = (0 : EReal) := by
  pointwise [zeros]
theorem few_at (i : S8192x8.Idx) : few i = (0 : EReal) := by
  pointwise [few]

variable (m : (ℓ : Loc nD τ sig) → Buf (Elt Ideal) ℓ)

/-- The first table. -/
theorem whole_v27 (c : Dev nD) : V m c main_v27 = table co co ones := by
  unfold V
  after_results
  rfl

/-- The second table. -/
theorem whole_v30 (c : Dev nD) : V m c main_v30 = table few si zeros := by
  unfold V
  after_results
  rfl

/-- The third table. -/
theorem whole_v33 (c : Dev nD) : V m c main_v33 = table (Host.negf si) few zeros := by
  unfold V
  after_results
  rfl

/-- An entry of the first table. -/
theorem cos_entry (s : Fin 8192) (j : Fin 128) : table co co ones (ix2 s j) =
    if h : j.val % 64 < 8 then co (ix2 s ⟨j.val % 64, h⟩)
    else if h' : j.val % 64 < 16 then co (ix2 s ⟨j.val % 64 - 8, by omega⟩) else (1 : EReal) := by
  rw [table_at]
  simp only [ones_at]

/-- An entry of the second table. -/
theorem back_entry (s : Fin 8192) (j : Fin 128) : table few si zeros (ix2 s j) =
    if h : j.val % 64 < 8 then (0 : EReal)
    else if h' : j.val % 64 < 16 then si (ix2 s ⟨j.val % 64 - 8, by omega⟩) else (0 : EReal) := by
  rw [table_at]
  simp only [few_at, zeros_at]

/-- An entry of the third table. -/
theorem ahead_entry (s : Fin 8192) (j : Fin 128) : table (Host.negf si) few zeros (ix2 s j) =
    if h : j.val % 64 < 8 then (- si (ix2 s ⟨j.val % 64, h⟩) : EReal)
    else if h' : j.val % 64 < 16 then (0 : EReal) else (0 : EReal) := by
  rw [table_at]
  simp only [few_at, zeros_at]
  rfl

end Cert.RopeIdeal.Tables

end
-- ==== Proof.RopeBlocks.lean ====
/- The blocks each grid point of the attention branch's projection stages, element by element, and where the
   elements of its results lie in their arrays. -/
module

public import proofs.«01_k».proof.Proof.Gen.RopeIdeal.Value
public import proofs.«01_k».proof.Proof.RopeTables
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeIdeal.Result

open Cert.RopeIdeal Cert.RopeIdeal.Gen Cert.RopeIdeal.Tables Cert.RopeRows

variable (m : (ℓ : Loc nD τ sig) → Buf (Elt Ideal) ℓ)

/-- Which block each window stages at grid point `t`. -/
theorem idx : ∀ t : Fin cfg0.N, win0_0.index t = ![t.val, 0] ∧ win0_1.index t = ![0, 0]
    ∧ win0_2.index t = ![0, 0] ∧ win0_3.index t = ![0, 0] ∧ win0_4.index t = ![t.val % 16, 0]
    ∧ win0_5.index t = ![t.val % 16, 0] ∧ win0_6.index t = ![t.val % 16, 0]
    ∧ win0_7.index t = ![t.val, 0] ∧ win0_8.index t = ![t.val, 0] ∧ win0_9.index t = ![t.val, 0]
    ∧ win0_10.index t = ![t.val, 0, 0] :=
  (by decide +kernel : ∀ t : Fin grid0.N, _)

/-- The rows the reference projects. -/
abbrev prows (c : Dev nD) : FVec Ideal Cert.RopeRefIdeal.S16384x1536 .f32 :=
  rows (m ((c : Thread nD τ).loc main_arg0)) (m ((c : Thread nD τ).loc main_arg1))
    (m ((c : Thread nD τ).loc main_arg2)) (m ((c : Thread nD τ).loc main_arg3))

/-- The row of the activations that point `t` has as its row `i`. -/
abbrev rowOf (t : Fin cfg0.N) (i : Fin 512) : Fin 16384 :=
  ⟨512 * t.val + i.val, by have h : t.val < 32 := t.isLt; omega⟩

/-- The activations' block. -/
theorem blk0 (c : Dev nD) (t : Fin cfg0.N) (i : Fin 512) (k : Fin 1024) :
    iblk m c 0 t (ix2 i k) = m ((c : Thread nD τ).loc main_arg0) (ix2 (rowOf t i) k) := by
  have e : ((cfg0.win 0).blk t).view.emb (ix2 i k) = (ix2 (rowOf t i) k : S16384x1024.Idx) :=
    funext fun a => Fin.ext <| by
      refine (Pipeline.Window.rect_emb_val (cfg0.win 0) t _ a rfl).trans ?_
      rw [show (cfg0.win 0).index t = _ from (idx t).1]
      match a with
      | ⟨0, _⟩ => show t.val * 512 + i.val = 512 * t.val + i.val; omega
      | ⟨1, _⟩ => exact Nat.zero_add k.val
  refine (congrArg (V m c main_arg0) e).trans ?_
  exact congrFun (V_main_arg0 m c) _
/-- The gain's block. -/
theorem blk1 (c : Dev nD) (t : Fin cfg0.N) (k : Fin 1024) :
    iblk m c 1 t (ix2 (0 : Fin 1) k) = m ((c : Thread nD τ).loc main_arg1) (ix1 k) := by
  have e : ((cfg0.win 1).blk t).view.emb (ix2 (0 : Fin 1) k) = (ix2 (0 : Fin 1) k : S1x1024.Idx) :=
    funext fun a => Fin.ext <| by
      refine (Pipeline.Window.rect_emb_val (cfg0.win 1) t _ a rfl).trans ?_
      rw [show (cfg0.win 1).index t = _ from (idx t).2.1]
      match a with
      | ⟨0, _⟩ => rfl
      | ⟨1, _⟩ => exact Nat.zero_add k.val
  refine (congrArg (V m c main_v34) e).trans ?_
  unfold V; after_results
  pointwise []
/-- The weights' block. -/
theorem blk2 (c : Dev nD) (t : Fin cfg0.N) (k : Fin 1024) (j : Fin 1536) :
    iblk m c 2 t (ix2 k j) = m ((c : Thread nD τ).loc main_arg2) (ix2 k j) := by
  have e : ((cfg0.win 2).blk t).view.emb (ix2 k j) = (ix2 k j : S1024x1536.Idx) :=
    funext fun a => Fin.ext <| by
      refine (Pipeline.Window.rect_emb_val (cfg0.win 2) t _ a rfl).trans ?_
      rw [show (cfg0.win 2).index t = _ from (idx t).2.2.1]
      match a with
      | ⟨0, _⟩ => exact Nat.zero_add k.val
      | ⟨1, _⟩ => exact Nat.zero_add j.val
  refine (congrArg (V m c main_v0) e).trans ?_
  unfold V; after_results
  pointwise []
/-- The bias's block. -/
theorem blk3 (c : Dev nD) (t : Fin cfg0.N) (j : Fin 1536) :
    iblk m c 3 t (ix2 (0 : Fin 1) j) = m ((c : Thread nD τ).loc main_arg3) (ix2 (0 : Fin 1) j) := by
  have e : ((cfg0.win 3).blk t).view.emb (ix2 (0 : Fin 1) j) = (ix2 (0 : Fin 1) j : S1x1536.Idx) :=
    funext fun a => Fin.ext <| by
      refine (Pipeline.Window.rect_emb_val (cfg0.win 3) t _ a rfl).trans ?_
      rw [show (cfg0.win 3).index t = _ from (idx t).2.2.2.1]
      match a with
      | ⟨0, _⟩ => rfl
      | ⟨1, _⟩ => exact Nat.zero_add j.val
  refine (congrArg (V m c main_arg3) e).trans ?_
  exact congrFun (V_main_arg3 m c) _
/-- The first table's block. -/
theorem blk4 (c : Dev nD) (t : Fin cfg0.N) (i : Fin 512) (j : Fin 128) :
    iblk m c 4 t (ix2 i j) = table co co ones (ix2 ⟨(rowOf t i).val % 8192, by omega⟩ j) := by
  have e : ((cfg0.win 4).blk t).view.emb (ix2 i j) = (ix2 ⟨(rowOf t i).val % 8192, by omega⟩ j : S8192x128.Idx) :=
    funext fun a => Fin.ext <| by
      refine (Pipeline.Window.rect_emb_val (cfg0.win 4) t _ a rfl).trans ?_
      rw [show (cfg0.win 4).index t = _ from (idx t).2.2.2.2.1]
      match a with
      | ⟨0, _⟩ => show t.val % 16 * 512 + i.val = (512 * t.val + i.val) % 8192; omega
      | ⟨1, _⟩ => exact Nat.zero_add j.val
  refine (congrArg (V m c main_v27) e).trans ?_
  rw [whole_v27]
/-- The second table's block. -/
theorem blk5 (c : Dev nD) (t : Fin cfg0.N) (i : Fin 512) (j : Fin 128) :
    iblk m c 5 t (ix2 i j) = table few si zeros (ix2 ⟨(rowOf t i).val % 8192, by omega⟩ j) := by
  have e : ((cfg0.win 5).blk t).view.emb (ix2 i j) = (ix2 ⟨(rowOf t i).val % 8192, by omega⟩ j : S8192x128.Idx) :=
    funext fun a => Fin.ext <| by
      refine (Pipeline.Window.rect_emb_val (cfg0.win 5) t _ a rfl).trans ?_
      rw [show (cfg0.win 5).index t = _ from (idx t).2.2.2.2.2.1]
      match a with
      | ⟨0, _⟩ => show t.val % 16 * 512 + i.val = (512 * t.val + i.val) % 8192; omega
      | ⟨1, _⟩ => exact Nat.zero_add j.val
  refine (congrArg (V m c main_v30) e).trans ?_
  rw [whole_v30]
/-- The third table's block. -/
theorem blk6 (c : Dev nD) (t : Fin cfg0.N) (i : Fin 512) (j : Fin 128) :
    iblk m c 6 t (ix2 i j) = table (Host.negf si) few zeros (ix2 ⟨(rowOf t i).val % 8192, by omega⟩ j) := by
  have e : ((cfg0.win 6).blk t).view.emb (ix2 i j) = (ix2 ⟨(rowOf t i).val % 8192, by omega⟩ j : S8192x128.Idx) :=
    funext fun a => Fin.ext <| by
      refine (Pipeline.Window.rect_emb_val (cfg0.win 6) t _ a rfl).trans ?_
      rw [show (cfg0.win 6).index t = _ from (idx t).2.2.2.2.2.2.1]
      match a with
      | ⟨0, _⟩ => show t.val % 16 * 512 + i.val = (512 * t.val + i.val) % 8192; omega
      | ⟨1, _⟩ => exact Nat.zero_add j.val
  refine (congrArg (V m c main_v33) e).trans ?_
  rw [whole_v33]
/-- Where an element of point `t`'s block of the queries lies. -/
theorem place7 (t : Fin cfg0.N) (i l : Fin 512) :
    ((cfg0.win 7).blk t).view.emb (ix2 i l) = (ix2 (rowOf t i) l : S16384x512.Idx) :=
    funext fun a => Fin.ext <| by
      refine (Pipeline.Window.rect_emb_val (cfg0.win 7) t _ a rfl).trans ?_
      rw [show (cfg0.win 7).index t = _ from (idx t).2.2.2.2.2.2.2.1]
      match a with
      | ⟨0, _⟩ => show t.val * 512 + i.val = 512 * t.val + i.val; omega
      | ⟨1, _⟩ => exact Nat.zero_add l.val

/-- Where an element of point `t`'s block of the keys lies. -/
theorem place8 (t : Fin cfg0.N) (i l : Fin 512) :
    ((cfg0.win 8).blk t).view.emb (ix2 i l) = (ix2 (rowOf t i) l : S16384x512.Idx) :=
    funext fun a => Fin.ext <| by
      refine (Pipeline.Window.rect_emb_val (cfg0.win 8) t _ a rfl).trans ?_
      rw [show (cfg0.win 8).index t = _ from (idx t).2.2.2.2.2.2.2.2.1]
      match a with
      | ⟨0, _⟩ => show t.val * 512 + i.val = 512 * t.val + i.val; omega
      | ⟨1, _⟩ => exact Nat.zero_add l.val

/-- Where an element of point `t`'s block of the values lies. -/
theorem place9 (t : Fin cfg0.N) (i l : Fin 512) :
    ((cfg0.win 9).blk t).view.emb (ix2 i l) = (ix2 (rowOf t i) l : S16384x512.Idx) :=
    funext fun a => Fin.ext <| by
      refine (Pipeline.Window.rect_emb_val (cfg0.win 9) t _ a rfl).trans ?_
      rw [show (cfg0.win 9).index t = _ from (idx t).2.2.2.2.2.2.2.2.2.1]
      match a with
      | ⟨0, _⟩ => show t.val * 512 + i.val = 512 * t.val + i.val; omega
      | ⟨1, _⟩ => exact Nat.zero_add l.val

/-- Where an element of point `t`'s block of the means lies. -/
theorem place10 (t : Fin cfg0.N) (n : Fin 2) (l : Fin 512) :
    ((cfg0.win 10).blk t).view.emb (ix3 n (0 : Fin 1) l)
      = (ix3 ⟨2 * t.val + n.val, by have h : t.val < 32 := t.isLt; omega⟩ (0 : Fin 1) l : S64x1x512.Idx) :=
    funext fun a => Fin.ext <| by
      refine (Pipeline.Window.rect_emb_val (cfg0.win 10) t _ a rfl).trans ?_
      rw [show (cfg0.win 10).index t = _ from (idx t).2.2.2.2.2.2.2.2.2.2]
      match a with
      | ⟨0, _⟩ => show t.val * 2 + n.val = 2 * t.val + n.val; omega
      | ⟨1, _⟩ => rfl
      | ⟨2, _⟩ => exact Nat.zero_add l.val

end Cert.RopeIdeal.Result

end
-- ==== Proof.RopeTurn.lean ====
/- The kernel's rotation of one entry: three products with the three tables, of the entry itself, of the entry
   eight columns back and of the entry eight columns on. Where a table is zero its product is zero, and what is
   left is the reference's rotation. -/
module

public import proofs.«01_k».proof.Proof.RopeTables

@[expose] public section

set_option maxRecDepth 16384

noncomputable section

open Idealize.ShloMosaic Idealize.ShloMosaic.TcCoe Idealize.SL.Sem

namespace Cert.RopeIdeal.Tables

open Cert.RopeIdeal Cert.RopeIdeal.Gen Cert.RopeRows

/-- Turned forward. -/
theorem sum_ahead (a p b d q : EReal) : a * p + b * 0 + d * (-q) = a * p - d * q := by
  rw [mul_zero, add_zero, mul_neg, sub_eq_add_neg]

/-- Turned back. -/
theorem sum_back (a p b q d : EReal) : a * p + b * q + d * 0 = a * p + b * q := by
  rw [mul_zero, add_zero]

/-- Left as it is. -/
theorem sum_still (a b d : EReal) : a * 1 + b * 0 + d * 0 = a := by
  rw [mul_zero, mul_zero, add_zero, add_zero, mul_one]

/-- The three products are the rotation. -/
theorem turn_tables (z : FVec Ideal Cert.RopeRefIdeal.S16384x1536 .f32) (o : Nat) (ho : o + 512 ≤ 1536) (r : Fin 16384) (l : Fin 512)
    (j : Fin 128) (hj : j.val = l.val % 128) (a0 a1 a2 : Nat) (h0 : a0 < 1536) (h1 : a1 < 1536) (h2 : a2 < 1536)
    (e0 : a0 = o + l.val) (e1 : ¬ l.val % 64 < 8 → a1 = o + l.val - 8) (e2 : l.val % 64 < 8 → a2 = o + l.val + 8) :
    z (ix2 r ⟨a0, h0⟩) * table co co ones (ix2 ⟨r.val % 8192, by omega⟩ j)
        + z (ix2 r ⟨a1, h1⟩) * table few si zeros (ix2 ⟨r.val % 8192, by omega⟩ j)
        + z (ix2 r ⟨a2, h2⟩) * table (Host.negf si) few zeros (ix2 ⟨r.val % 8192, by omega⟩ j)
      = turn z co si o ho r l := by
  have hd : j.val % 64 = l.val % 64 := by omega
  rw [cos_entry, back_entry, ahead_entry]
  unfold turn
  subst e0
  by_cases h : l.val % 64 < 8
  · simp only [hd, h, dif_pos]
    rw [at_col z r h2 _ (e2 h)]
    exact sum_ahead _ _ _ _ _
  · by_cases h' : l.val % 64 < 16
    · simp only [hd, h, h', dif_pos, dif_neg, not_false_eq_true]
      rw [at_col z r h1 _ (e1 h)]
      exact sum_back _ _ _ _ _
    · simp only [hd, h, h', dif_neg, not_false_eq_true]
      exact sum_still _ _ _

end Cert.RopeIdeal.Tables

end
-- ==== Proof.RopeValue.lean ====
/- The projections of the block-sparse attention branch: after the kernel's run the four result arrays are the
   reference's own terms of the four arguments: the rotated and scaled queries, the rotated keys, the
   values, and the mean of every 256 rotated keys. -/
module

public import proofs.«01_k».proof.Proof.RopeBlocks
public import proofs.«01_k».proof.Proof.RopeTurn

@[expose] public section

set_option maxRecDepth 16384

noncomputable section

open Idealize.ShloMosaic Idealize.ShloMosaic.TcCoe Idealize.SL.Sem
open Idealize.ShloMosaic.Pipeline (Dat)

namespace Cert.RopeIdeal.Result

open Cert.RopeIdeal Cert.RopeIdeal.Gen Cert.RopeIdeal.Tables Cert.RopeRows

variable (m : (ℓ : Loc nD τ sig) → Buf (Elt Ideal) ℓ)

/-- The projected rows of point `t` are the reference's. -/
theorem projected (c : Dev nD) (t : Fin cfg0.N) (i : Fin 512) (j : Fin 1536) :
    k0_pay6 (F := Ideal) (iblk m c 0 t) (iblk m c 1 t) (iblk m c 2 t) (iblk m c 3 t) (ix2 i j)
      = prows m c (ix2 (rowOf t i) j) := by
  pointwise [k0_pay6, prows, rows, Cert.RopeRefIdeal.Read.val_main_v15, Cert.RopeRefIdeal.Read.val_main_v14,
    Cert.RopeRefIdeal.Read.val_main_v13, Cert.RopeRefIdeal.Read.val_main_v12, Cert.RopeRefIdeal.Read.val_main_v11,
    Cert.RopeRefIdeal.Read.val_main_v10, Cert.RopeRefIdeal.Read.val_main_v9, Cert.RopeRefIdeal.Read.val_main_v8,
    Cert.RopeRefIdeal.Read.val_main_v7, Cert.RopeRefIdeal.Read.val_main_v6, Cert.RopeRefIdeal.Read.val_main_v5,
    Cert.RopeRefIdeal.Read.val_main_v4, Cert.RopeRefIdeal.Read.val_main_v3, Cert.RopeRefIdeal.Read.val_main_v2,
    Cert.RopeRefIdeal.Read.val_main_v1, Cert.RopeRefIdeal.Read.val_main_v0, Cert.RopeRefIdeal.Read.val_main_cst,
    Cert.RopeRefIdeal.Read.val_main_cst_0, Cert.RopeRefIdeal.Read.val_main_cst_1]
  simp only [blk0, blk1, blk2, blk3]

/-- The columns of a table repeated over the 512 columns of a row. -/
theorem wide (v : FVec Ideal S512x128 .f32) (i : Fin 512) (l : Fin 512) :
    k0_pay7 (F := Ideal) v (ix2 i l) = v (ix2 i ⟨l.val % 128, by omega⟩) := by
  pointwise [k0_pay7]
  split_ifs <;> exact congrArg (fun k => v (ix2 i k)) (Fin.ext (by simp only []; omega))

/-- Rotated queries of point `t`. -/
theorem queries (c : Dev nD) (t : Fin cfg0.N) (i : Fin 512) (l : Fin 512) :
    k0_pay2 (k0_pay10 (F := Ideal) (iblk m c 0 t) (iblk m c 1 t) (iblk m c 2 t) (iblk m c 3 t) (iblk m c 4 t) (iblk m c 5 t) (iblk m c 6 t)) (ix2 i l)
      = turn (prows m c) co si 0 (by decide) (rowOf t i) l * Ideal.ofBits .f32 0x3E000000#32 := by
  pointwise [k0_pay2, k0_pay10]
  refine congrArg (· * Ideal.ofBits .f32 0x3E000000#32) ?_
  rw [projected, projected, projected]
  rw [show k0_pay8 (F := Ideal) = k0_pay7 from rfl, show k0_pay9 (F := Ideal) = k0_pay7 from rfl, wide, wide, wide]
  rw [blk4, blk5, blk6]
  exact turn_tables _ 0 _ _ l _ rfl _ _ _ _ _ _ (by omega) (fun _ => by omega) (fun _ => by omega)

/-- Rotated keys of point `t`. -/
theorem keys (c : Dev nD) (t : Fin cfg0.N) (i : Fin 512) (l : Fin 512) :
    k0_pay1 (F := Ideal) (k0_pay6 (iblk m c 0 t) (iblk m c 1 t) (iblk m c 2 t) (iblk m c 3 t)) (k0_pay7 (iblk m c 4 t)) (k0_pay8 (iblk m c 5 t)) (k0_pay9 (iblk m c 6 t)) (ix2 i l)
      = turn (prows m c) co si 512 (by decide) (rowOf t i) l := by
  pointwise [k0_pay1]
  rw [projected, projected, projected]
  rw [show k0_pay8 (F := Ideal) = k0_pay7 from rfl, show k0_pay9 (F := Ideal) = k0_pay7 from rfl, wide, wide, wide]
  rw [blk4, blk5, blk6]
  exact turn_tables _ 512 _ _ l _ rfl _ _ _ _ _ _ (by omega) (fun _ => by omega) (fun _ => by omega)

/-- The projected rows as the body's later stores read them. -/
theorem reread_rows (c : Dev nD) (t : Fin cfg0.N) :
    k0_pay11 (F := Ideal) (iblk m c 0 t) (iblk m c 1 t) (iblk m c 2 t) (iblk m c 3 t) (iblk m c 4 t) (iblk m c 5 t) (iblk m c 6 t)
      = k0_pay6 (iblk m c 0 t) (iblk m c 1 t) (iblk m c 2 t) (iblk m c 3 t) := by
  unfold k0_pay11
  frame_out

/-- The cosines as the body's later stores read them. -/
theorem reread_cos (c : Dev nD) (t : Fin cfg0.N) :
    k0_pay12 (F := Ideal) (iblk m c 0 t) (iblk m c 1 t) (iblk m c 2 t) (iblk m c 3 t) (iblk m c 4 t) (iblk m c 5 t) (iblk m c 6 t)
      = k0_pay7 (iblk m c 4 t) := by
  unfold k0_pay12
  frame_out

/-- The sines for the entry eight columns back. -/
theorem reread_back (c : Dev nD) (t : Fin cfg0.N) :
    k0_pay13 (F := Ideal) (iblk m c 0 t) (iblk m c 1 t) (iblk m c 2 t) (iblk m c 3 t) (iblk m c 4 t) (iblk m c 5 t) (iblk m c 6 t)
      = k0_pay8 (iblk m c 5 t) := by
  unfold k0_pay13
  frame_out

/-- The sines for the entry eight columns on. -/
theorem reread_ahead (c : Dev nD) (t : Fin cfg0.N) :
    k0_pay14 (F := Ideal) (iblk m c 0 t) (iblk m c 1 t) (iblk m c 2 t) (iblk m c 3 t) (iblk m c 4 t) (iblk m c 5 t) (iblk m c 6 t)
      = k0_pay9 (iblk m c 6 t) := by
  unfold k0_pay14
  frame_out

/-- The stored keys are the rotated keys. -/
theorem stored (x : FVec Ideal S512x1536 .f32) (u v w : FVec Ideal S512x512 .f32) (i : S512x512.Idx) :
    k0_pay3 (F := Ideal) x u v w i = k0_pay1 x u v w i := rfl

/-- The stored values are the last third of the projected rows. -/
theorem third (x : FVec Ideal S512x1536 .f32) (i : Fin 512) (l : Fin 512) :
    k0_pay4 (F := Ideal) x (ix2 i l) = x (ix2 i ⟨1024 + l.val, by omega⟩) := by
  pointwise [k0_pay4]

/-- The queries' array after the run. -/
theorem final_q (c : Dev nD) : (dats m 0 c).arrAt 7 (cfgs 0).N
    = Cert.RopeRefIdeal.Read.val_main_v105 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  obtain ⟨i, l, rfl⟩ : ∃ (i : Fin 512) (l : Fin 512), y = ix2 i l := ⟨y 0, y 1, eq_ix2 y⟩
  rw [place7, q_at]
  blk_simp
  rw [after0_7]; frame_out
  exact queries m c t i l

/-- The keys' array after the run. -/
theorem final_k (c : Dev nD) : (dats m 0 c).arrAt 8 (cfgs 0).N
    = Cert.RopeRefIdeal.Read.val_main_v109 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 8 _ (by decide +kernel) fun t _ y => ?_
  obtain ⟨i, l, rfl⟩ : ∃ (i : Fin 512) (l : Fin 512), y = ix2 i l := ⟨y 0, y 1, eq_ix2 y⟩
  rw [place8, k_at]
  blk_simp
  rw [after0_8]; frame_out
  rw [stored, reread_rows, reread_cos, reread_back, reread_ahead]
  exact keys m c t i l

/-- The values' array after the run. -/
theorem final_v (c : Dev nD) : (dats m 0 c).arrAt 9 (cfgs 0).N
    = Cert.RopeRefIdeal.Read.val_main_v112 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 9 _ (by decide +kernel) fun t _ y => ?_
  obtain ⟨i, l, rfl⟩ : ∃ (i : Fin 512) (l : Fin 512), y = ix2 i l := ⟨y 0, y 1, eq_ix2 y⟩
  rw [place9, v_at]
  blk_simp
  rw [after0_9]; frame_out
  rw [reread_rows, third]
  exact projected m c t i _

/-- The array of the keys' means after the run. -/
theorem final_mean (c : Dev nD) : (dats m 0 c).arrAt 10 (cfgs 0).N
    = Cert.RopeRefIdeal.Read.val_main_v115 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 10 _ (by decide +kernel) fun t _ y => ?_
  obtain ⟨n, u, l, rfl⟩ : ∃ (n : Fin 2) (u : Fin 1) (l : Fin 512), y = ix3 n u l := ⟨y 0, y 1, y 2, eq_ix3 y⟩
  obtain rfl : u = 0 := Subsingleton.elim _ _
  rw [place10, mean_at]
  blk_simp
  rw [after0_10]; frame_out
  pointwise [k0_pay5]
  rw [reread_rows, reread_cos, reread_back, reread_ahead]
  refine congrArg (Ideal.div · _) (Finset.sum_congr rfl fun k _ => ?_)
  refine (keys m c t _ l).trans ?_
  refine congrArg (turn _ _ _ _ _ · l) (Fin.ext ?_)
  simp only [rowOf]
  omega

end Cert.RopeIdeal.Result

end
-- ==== Proof.RopeRun.lean ====
/- The run of the block-sparse attention branch's projections: after it the four result arrays hold the
   reference's terms and the arguments are as they were. -/
module

public import proofs.«01_k».proof.Proof.RopeValue

@[expose] public section

set_option maxRecDepth 16384

noncomputable section

open Idealize.ShloMosaic Idealize.ShloMosaic.TcCoe Idealize.SL.Sem

namespace Cert.RopeIdeal.Result

open Cert.RopeIdeal Cert.RopeIdeal.Gen Cert.RopeRefIdeal.Read

variable (m : (ℓ : Loc nD τ sig) → Buf (Elt Ideal) ℓ) (ρ : Dev nD → PrngReg)

/-- The rotated queries of the arguments. -/
def qOf (c : Dev nD) := val_main_v105 (F := Ideal) (m ((c : Thread nD τ).loc main_arg0)) (m ((c : Thread nD τ).loc main_arg1)) (m ((c : Thread nD τ).loc main_arg2)) (m ((c : Thread nD τ).loc main_arg3))

/-- The rotated keys of the arguments. -/
def kOf (c : Dev nD) := val_main_v109 (F := Ideal) (m ((c : Thread nD τ).loc main_arg0)) (m ((c : Thread nD τ).loc main_arg1)) (m ((c : Thread nD τ).loc main_arg2)) (m ((c : Thread nD τ).loc main_arg3))

/-- The values of the arguments. -/
def vOf (c : Dev nD) := val_main_v112 (F := Ideal) (m ((c : Thread nD τ).loc main_arg0)) (m ((c : Thread nD τ).loc main_arg1)) (m ((c : Thread nD τ).loc main_arg2)) (m ((c : Thread nD τ).loc main_arg3))

/-- The means of the rotated keys of the arguments. -/
def meanOf (c : Dev nD) := val_main_v115 (F := Ideal) (m ((c : Thread nD τ).loc main_arg0)) (m ((c : Thread nD τ).loc main_arg1)) (m ((c : Thread nD τ).loc main_arg2)) (m ((c : Thread nD τ).loc main_arg3))

/-- The four result arrays and the arguments after the run. -/
theorem run_result : θ_run (defs (F := Ideal)) (onTc (τ := τ) (main (F := Ideal))) ⟨m, fun _ => 0, ρ⟩ (fun r => ∀ c : Dev nD,
      r.2.mem ((c.tc : Thread nD τ).loc main_v35_0) = qOf m c
      ∧ r.2.mem ((c.tc : Thread nD τ).loc main_v35_1) = kOf m c
      ∧ r.2.mem ((c.tc : Thread nD τ).loc main_v35_2) = vOf m c
      ∧ r.2.mem ((c.tc : Thread nD τ).loc main_v35_3) = meanOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final_q m c), ((h.1 c).1 8).trans (final_k m c),
      ((h.1 c).1 9).trans (final_v m c), ((h.1 c).1 10).trans (final_mean m c), h.2 c⟩)
    (θ_run_and (run_main m ρ) (unchanged m ρ))

/-- The reference's run from equal arguments. -/
theorem ref_run (m' : (ℓ : Loc Cert.RopeRefIdeal.nD Cert.RopeRefIdeal.τ Cert.RopeRefIdeal.sig) → Buf (Elt Ideal) ℓ)
    (ρ' : Dev Cert.RopeRefIdeal.nD → PrngReg)
    (hagree : ∀ c : Dev nD,
      m' ((c.tc : Thread Cert.RopeRefIdeal.nD Cert.RopeRefIdeal.τ).loc Cert.RopeRefIdeal.main_arg0) = m ((c.tc : Thread nD τ).loc main_arg0)
      ∧ m' ((c.tc : Thread Cert.RopeRefIdeal.nD Cert.RopeRefIdeal.τ).loc Cert.RopeRefIdeal.main_arg1) = m ((c.tc : Thread nD τ).loc main_arg1)
      ∧ m' ((c.tc : Thread Cert.RopeRefIdeal.nD Cert.RopeRefIdeal.τ).loc Cert.RopeRefIdeal.main_arg2) = m ((c.tc : Thread nD τ).loc main_arg2)
      ∧ m' ((c.tc : Thread Cert.RopeRefIdeal.nD Cert.RopeRefIdeal.τ).loc Cert.RopeRefIdeal.main_arg3) = m ((c.tc : Thread nD τ).loc main_arg3)) :
    θ_run (Cert.RopeRefIdeal.defs (F := Ideal)) (onTc (τ := Cert.RopeRefIdeal.τ) (Cert.RopeRefIdeal.main (F := Ideal))) ⟨m', fun _ => 0, ρ'⟩ (fun r => ∀ c : Dev Cert.RopeRefIdeal.nD,
      r.2.mem ((c.tc : Thread Cert.RopeRefIdeal.nD Cert.RopeRefIdeal.τ).loc Cert.RopeRefIdeal.main_v105) = qOf m c
      ∧ r.2.mem ((c.tc : Thread Cert.RopeRefIdeal.nD Cert.RopeRefIdeal.τ).loc Cert.RopeRefIdeal.main_v109) = kOf m c
      ∧ r.2.mem ((c.tc : Thread Cert.RopeRefIdeal.nD Cert.RopeRefIdeal.τ).loc Cert.RopeRefIdeal.main_v112) = vOf m c
      ∧ r.2.mem ((c.tc : Thread Cert.RopeRefIdeal.nD Cert.RopeRefIdeal.τ).loc Cert.RopeRefIdeal.main_v115) = meanOf m c
      ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3)) := by
  refine (θ_run Cert.RopeRefIdeal.defs _ _).mono (fun r h c => ⟨(h c).1.trans ?_, (h c).2.1.trans ?_, (h c).2.2.1.trans ?_,
    (h c).2.2.2.1.trans ?_, (h c).2.2.2.2⟩) (Cert.RopeRefIdeal.Value.run m' ρ')
  all_goals obtain ⟨h0, h1, h2, h3⟩ := hagree c
  · rw [val_main_v105_eq, h0, h1, h2, h3, qOf]
  · rw [val_main_v109_eq, h0, h1, h2, h3, kOf]
  · rw [vOf, ← h0, ← h1, ← h2, ← h3]
    exact val_main_v112_eq _ _ _ _
  · rw [val_main_v115_eq, h0, h1, h2, h3, meanOf]

end Cert.RopeIdeal.Result

end
-- ==== Proof.RouterBlocks.lean ====
/- The blocks each grid point of the router stages, element by element, and where the elements of its
   results lie in their arrays. -/
module

public import proofs.«01_k».proof.Proof.Gen.RouterIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouterIdeal.Result

open Cert.RouterIdeal Cert.RouterIdeal.Gen

variable (m : (ℓ : Loc nD τ sig) → Buf (Elt Ideal) ℓ)

/-- Which block each window stages at grid point `t`. -/
theorem idx : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![0, 0] :=
  (by decide +kernel : ∀ t : Fin grid0.N, _)

/-- The row of the activations that point `t` has as its row `i`. -/
abbrev rowOf (t : Fin cfg0.N) (i : Fin 512) : Fin 16384 :=
  ⟨t.val * 512 + i.val, by have h : t.val < 32 := t.isLt; omega⟩

/-- The activations' block. -/
theorem blk0 (c : Dev nD) (t : Fin cfg0.N) (i : Fin 512) (k : Fin 1024) :
    iblk m c 0 t (ix2 i k) = m ((c : Thread nD τ).loc main_arg0) (ix2 (rowOf t i) k) := by
  have e : ((cfg0.win 0).blk t).view.emb (ix2 i k) = (ix2 (rowOf t i) k : S16384x1024.Idx) :=
    funext fun a => Fin.ext <| by
      refine (Pipeline.Window.rect_emb_val (cfg0.win 0) t _ a rfl).trans ?_
      rw [show (cfg0.win 0).index t = _ from (idx t).1]
      match a with
      | ⟨0, _⟩ => rfl
      | ⟨1, _⟩ => exact Nat.zero_add k.val
  refine (congrArg (V m c main_arg0) e).trans ?_
  exact congrFun (V_main_arg0 m c) _

/-- The gain's block. -/
theorem blk1 (c : Dev nD) (t : Fin cfg0.N) (k : Fin 1024) :
    iblk m c 1 t (ix2 (0 : Fin 1) k) = m ((c : Thread nD τ).loc main_arg1) (ix1 k) := by
  have e : ((cfg0.win 1).blk t).view.emb (ix2 (0 : Fin 1) k) = (ix2 (0 : Fin 1) k : S1x1024.Idx) :=
    funext fun a => Fin.ext <| by
      refine (Pipeline.Window.rect_emb_val (cfg0.win 1) t _ a rfl).trans ?_
      rw [show (cfg0.win 1).index t = _ from (idx t).2.1]
      match a with
      | ⟨0, _⟩ => rfl
      | ⟨1, _⟩ => exact Nat.zero_add k.val
  refine (congrArg (V m c main_v3) e).trans ?_
  simp only [V, hostOps0, hostOps0_1, hostOps0_2, hostOps0_3, hostOps0_4, List.flatten_cons, List.flatten_nil,
    List.append_nil, List.cons_append, List.nil_append]
  after_results
  pointwise []

/-- Weights padded to 128 columns, at one of the eight. -/
theorem padded_weights (x : FVec Ideal S1024x8 .f32) (v : FVec Ideal S_ .f32) (k : Fin 1024) (j : Fin 8) :
    pad S1024x128 ![0, 0] ![0, 120] ![0, 0] x v pads_S1024x8_S1024x128_000_01200 h_S_ (ix2 k (⟨j.val, by omega⟩ : Fin 128))
      = x (ix2 k j) := by
  pointwise []

/-- A bias padded to 128 lanes, at one of the eight. -/
theorem padded_bias (x : FVec Ideal S8 .f32) (v : FVec Ideal S_ .f32) (j : Fin 8) :
    pad S128 ![0] ![120] ![0] x v pads_S8_S128_01200 h_S_ (ix1 (⟨j.val, by omega⟩ : Fin 128)) = x (ix1 j) := by
  pointwise []

/-- The weights' block, at one of the eight experts. -/
theorem blk2 (c : Dev nD) (t : Fin cfg0.N) (k : Fin 1024) (j : Fin 8) :
    iblk m c 2 t (ix2 k (⟨j.val, by omega⟩ : Fin 128)) = m ((c : Thread nD τ).loc main_arg2) (ix2 k j) := by
  have e : ((cfg0.win 2).blk t).view.emb (ix2 k (⟨j.val, by omega⟩ : Fin 128))
      = (ix2 k (⟨j.val, by omega⟩ : Fin 128) : S1024x128.Idx) :=
    funext fun a => Fin.ext <| by
      refine (Pipeline.Window.rect_emb_val (cfg0.win 2) t _ a rfl).trans ?_
      rw [show (cfg0.win 2).index t = _ from (idx t).2.2.1]
      match a with
      | ⟨0, _⟩ => exact Nat.zero_add k.val
      | ⟨1, _⟩ => exact Nat.zero_add j.val
  refine (congrArg (V m c main_v0) e).trans ?_
  simp only [V, hostOps0, hostOps0_1, hostOps0_2, hostOps0_3, hostOps0_4, List.flatten_cons, List.flatten_nil,
    List.append_nil, List.cons_append, List.nil_append]
  after_results
  exact padded_weights _ _ k j

/-- The bias's block, at one of the eight experts. -/
theorem blk3 (c : Dev nD) (t : Fin cfg0.N) (j : Fin 8) :
    iblk m c 3 t (ix2 (0 : Fin 1) (⟨j.val, by omega⟩ : Fin 128)) = m ((c : Thread nD τ).loc main_arg3) (ix1 j) := by
  have e : ((cfg0.win 3).blk t).view.emb (ix2 (0 : Fin 1) (⟨j.val, by omega⟩ : Fin 128))
      = (ix2 (0 : Fin 1) (⟨j.val, by omega⟩ : Fin 128) : S1x128.Idx) :=
    funext fun a => Fin.ext <| by
      refine (Pipeline.Window.rect_emb_val (cfg0.win 3) t _ a rfl).trans ?_
      rw [show (cfg0.win 3).index t = _ from (idx t).2.2.2.1]
      match a with
      | ⟨0, _⟩ => rfl
      | ⟨1, _⟩ => exact Nat.zero_add j.val
  refine (congrArg (V m c main_v2) e).trans ?_
  simp only [V, hostOps0, hostOps0_1, hostOps0_2, hostOps0_3, hostOps0_4, List.flatten_cons, List.flatten_nil,
    List.append_nil, List.cons_append, List.nil_append]
  after_results
  pointwise []
  exact padded_bias _ _ j

/-- Where an element of point `t`'s block of the normalised rows lies. -/
theorem place4 (t : Fin cfg0.N) (i : Fin 512) (l : Fin 1024) :
    ((cfg0.win 4).blk t).view.emb (ix2 i l) = (ix2 (rowOf t i) l : S16384x1024.Idx) :=
  funext fun a => Fin.ext <| by
    refine (Pipeline.Window.rect_emb_val (cfg0.win 4) t _ a rfl).trans ?_
    rw [show (cfg0.win 4).index t = _ from (idx t).2.2.2.2.1]
    match a with
    | ⟨0, _⟩ => rfl
    | ⟨1, _⟩ => exact Nat.zero_add l.val

/-- Where an element of point `t`'s block of the routing data lies. -/
theorem place5 (t : Fin cfg0.N) (i : Fin 512) (l : Fin 128) :
    ((cfg0.win 5).blk t).view.emb (ix2 i l) = (ix2 (rowOf t i) l : S16384x128.Idx) :=
  funext fun a => Fin.ext <| by
    refine (Pipeline.Window.rect_emb_val (cfg0.win 5) t _ a rfl).trans ?_
    rw [show (cfg0.win 5).index t = _ from (idx t).2.2.2.2.2.1]
    match a with
    | ⟨0, _⟩ => rfl
    | ⟨1, _⟩ => exact Nat.zero_add l.val

/-- Where an element of the counts lies. -/
theorem place6 (t : Fin cfg0.N) (l : Fin 128) :
    ((cfg0.win 6).blk t).view.emb (ix2 (0 : Fin 1) l) = (ix2 (0 : Fin 1) l : S1x128.Idx) :=
  funext fun a => Fin.ext <| by
    refine (Pipeline.Window.rect_emb_val (cfg0.win 6) t _ a rfl).trans ?_
    rw [show (cfg0.win 6).index t = _ from (idx t).2.2.2.2.2.2]
    match a with
    | ⟨0, _⟩ => rfl
    | ⟨1, _⟩ => exact Nat.zero_add l.val

end Cert.RouterIdeal.Result

end
-- ==== Proof.RouterTop.lean ====
/- The two highest of eight numbers and where they stand, the lowest place first among equals; the
   same read over 128 lanes of which all but the first eight hold negative infinity. Pure facts about
   extended reals and words: no program is mentioned. -/
module

public import Idealize.ShloMosaic.Lib.Pointwise

@[expose] public section

set_option maxRecDepth 16384

noncomputable section

open Idealize.ShloMosaic

namespace Cert.Top

/-- The highest of a row of numbers. -/
def high {n : ℕ} (L : Fin n → EReal) : EReal := (Finset.univ : Finset (Fin n)).fold max ⊥ L

/-- The lowest place at which a row attains its highest number, `d` where there is none. -/
def placeOr {n : ℕ} (d : BitVec 32) (L : Fin n → EReal) : BitVec 32 :=
  (Finset.univ : Finset (Fin n)).fold IntOp.minsi 2147483647#32
    (fun l => if L l = high L then BitVec.ofNat 32 l.val else d)

/-- The place of the highest of eight. -/
abbrev place (L : Fin 8 → EReal) : BitVec 32 := placeOr 8#32 L

/-- The row with its highest number struck out. -/
def rest (L : Fin 8 → EReal) (l : Fin 8) : EReal := if BitVec.ofNat 32 l.val = place L then ⊥ else L l

/-- One at the place `e`, zero elsewhere. -/
def hot (e : BitVec 32) (l : ℕ) : EReal := if BitVec.ofNat 32 l = e then 1 else 0

/-- Two ones: at the places of the two highest numbers of a row. -/
def chosen (L : Fin 8 → EReal) (l : ℕ) : EReal := hot (place L) l + hot (place (rest L)) l

/-- Eight numbers laid over 128 lanes, negative infinity in the others. -/
def wide (L : Fin 8 → EReal) (l : Fin 128) : EReal := if h : l.val < 8 then L ⟨l.val, h⟩ else ⊥

theorem wide_low (L : Fin 8 → EReal) (l : Fin 8) : wide L ⟨l.val, by omega⟩ = L l := by
  unfold wide; rw [dif_pos l.isLt]

theorem high_le {n : ℕ} (L : Fin n → EReal) (c : EReal) : high L ≤ c ↔ ∀ l, L l ≤ c := by
  unfold high; rw [Finset.fold_max_le]; simp

theorem le_high {n : ℕ} (L : Fin n → EReal) (l : Fin n) : L l ≤ high L := (high_le L _).1 le_rfl l

/-- The lanes of negative infinity do not change the highest number. -/
theorem high_wide (L : Fin 8 → EReal) : high (wide L) = high L := by
  refine le_antisymm ((high_le _ _).2 fun l => ?_) ((high_le _ _).2 fun l => ?_)
  · unfold wide; split
    · exact le_high L _
    · exact bot_le
  · rw [← wide_low L l]; exact le_high (wide L) _

/-- Some place attains the highest number. -/
theorem high_attained (L : Fin 8 → EReal) : ∃ l, L l = high L := by
  obtain ⟨l, -, hl⟩ := Finset.exists_max_image (Finset.univ : Finset (Fin 8)) L ⟨0, Finset.mem_univ _⟩
  exact ⟨l, le_antisymm (le_high L l) ((high_le L _).2 fun k => hl k (Finset.mem_univ k))⟩

theorem toInt_minsi (a b : BitVec 32) : (IntOp.minsi a b).toInt = min a.toInt b.toInt := by
  unfold IntOp.minsi
  split <;> rename_i h <;> simp only [BitVec.slt, decide_eq_true_eq] at h <;> omega

/-- A bound below a signed minimum is a bound below every entry and the start. -/
theorem le_min {n : ℕ} (d : BitVec 32) (f : Fin n → BitVec 32) (c : ℤ) :
    c ≤ ((Finset.univ : Finset (Fin n)).fold IntOp.minsi d f).toInt ↔ c ≤ d.toInt ∧ ∀ l, c ≤ (f l).toInt := by
  have key : ∀ s : Finset (Fin n), c ≤ (s.fold IntOp.minsi d f).toInt ↔ c ≤ d.toInt ∧ ∀ l ∈ s, c ≤ (f l).toInt := by
    intro s
    induction s using Finset.induction_on with
    | empty => simp
    | insert a s ha ih =>
      rw [Finset.fold_insert ha, toInt_minsi, le_min_iff, ih]
      simp only [Finset.mem_insert, forall_eq_or_imp]
      tauto
  simpa using key Finset.univ

theorem toInt_ofNat (l : ℕ) (h : l < 128) : (BitVec.ofNat 32 l).toInt = l := by
  rw [BitVec.toInt_eq_toNat_of_lt (by rw [BitVec.toNat_ofNat]; omega), BitVec.toNat_ofNat]
  omega

theorem placeOr_le {n : ℕ} (d : BitVec 32) (L : Fin n → EReal) (l : Fin n) :
    (placeOr d L).toInt ≤ (if L l = high L then BitVec.ofNat 32 l.val else d).toInt :=
  ((le_min _ _ _).1 le_rfl).2 l

/-- The place found over 128 lanes is the place found over the eight. -/
theorem placeOr_wide (L : Fin 8 → EReal) : placeOr 128#32 (wide L) = place L := by
  have h8 : (8#32).toInt = 8 := by decide
  have h128 : (128#32).toInt = 128 := by decide
  have hM : (2147483647#32).toInt = 2147483647 := by decide
  obtain ⟨k, hk⟩ := high_attained L
  have kb : (place L).toInt ≤ k.val := by
    have h := placeOr_le 8#32 L k; rw [if_pos hk, toInt_ofNat _ (by omega)] at h; exact h
  have wb : ∀ l : Fin 8, L l = high L → (placeOr 128#32 (wide L)).toInt ≤ l.val := by
    intro l hl
    have h := placeOr_le 128#32 (wide L) ⟨l.val, by omega⟩
    rw [high_wide, wide_low, if_pos hl, toInt_ofNat _ (by omega)] at h; exact h
  refine BitVec.eq_of_toInt_eq (le_antisymm ((le_min _ _ _).2 ⟨?_, fun l => ?_⟩) ((le_min _ _ _).2 ⟨?_, fun l => ?_⟩))
  · have := wb k hk; omega
  · split
    · rename_i h; rw [toInt_ofNat _ (by omega)]; exact wb l h
    · have := wb k hk; omega
  · omega
  · rw [high_wide]
    by_cases hl : l.val < 8
    · have hw : wide L l = L ⟨l.val, hl⟩ := by unfold wide; rw [dif_pos hl]
      rw [hw]
      by_cases he : L ⟨l.val, hl⟩ = high L
      · have h := placeOr_le 8#32 L ⟨l.val, hl⟩
        rw [if_pos he] at h ⊢; exact h
      · rw [if_neg he]; omega
    · split
      · rw [toInt_ofNat _ (by omega)]; omega
      · omega

/-- A place is one of the eight. -/
theorem place_lt (L : Fin 8 → EReal) : (place L).toInt < 8 := by
  obtain ⟨k, hk⟩ := high_attained L
  have h := placeOr_le 8#32 L k
  rw [if_pos hk, toInt_ofNat _ (by omega)] at h
  have : (place L).toInt ≤ k.val := h
  omega

/-- No lane past the eighth is a place. -/
theorem hot_far (L : Fin 8 → EReal) (l : ℕ) (h8 : 8 ≤ l) (h : l < 128) : hot (place L) l = 0 := by
  unfold hot
  rw [if_neg]
  intro he
  have := place_lt L
  rw [← he, toInt_ofNat l h] at this
  omega

theorem chosen_far (L : Fin 8 → EReal) (l : ℕ) (h8 : 8 ≤ l) (h : l < 128) : chosen L l = 0 := by
  unfold chosen; rw [hot_far L l h8 h, hot_far _ l h8 h, add_zero]

/-- Striking the highest number out over 128 lanes. -/
theorem rest_wide (L : Fin 8 → EReal) (l : Fin 128) :
    (if BitVec.ofNat 32 l.val = place L then ⊥ else wide L l) = wide (rest L) l := by
  by_cases hl : l.val < 8
  · unfold wide rest; rw [dif_pos hl, dif_pos hl]
  · unfold wide; rw [dif_neg hl, dif_neg hl, ite_self]

/-- A sum over 128 lanes weighted by ones at a place is the sum over the eight. -/
theorem sum_hot (L : Fin 8 → EReal) (f : ℕ → EReal) :
    ∑ l : Fin 128, f l.val * hot (place L) l.val = ∑ l : Fin 8, f l.val * hot (place L) l.val := by
  rw [Fin.sum_univ_eq_sum_range (fun l => f l * hot (place L) l) 128,
    Fin.sum_univ_eq_sum_range (fun l => f l * hot (place L) l) 8]
  refine (Finset.sum_subset (fun a ha => ?_) fun a ha hb => ?_).symm
  · rw [Finset.mem_range] at ha ⊢; omega
  · rw [Finset.mem_range] at ha hb
    show f a * hot (place L) a = 0
    rw [hot_far L a (by omega) ha, mul_zero]

/-- Sums tile by tile up to a row inside tile `i`: the whole tiles before it and the part of it. -/
theorem sum_upto (T P : ℕ → EReal) (i : ℕ) : ∀ n, (∑ j ∈ Finset.range n, if j < i then T j else if j = i then P j else 0)
    = if n ≤ i then ∑ j ∈ Finset.range n, T j else P i + ∑ j ∈ Finset.range i, T j
  | 0 => by simp
  | n + 1 => by
    rw [Finset.sum_range_succ, sum_upto T P i n]
    rcases lt_trichotomy n i with h | h | h
    · rw [if_pos (by omega), if_pos h, if_pos (by omega), Finset.sum_range_succ]
    · subst h
      rw [if_pos le_rfl, if_neg (lt_irrefl _), if_pos rfl, if_neg (by omega), add_comm]
    · rw [if_neg (by omega), if_neg (by omega), if_neg (by omega), if_neg (by omega), add_zero]

/-- How many of the rows before row `i * 512 + r` were counted: tile by tile as against all at once. -/
theorem sum_before (c : ℕ → EReal) (i : ℕ) (hi : i < 32) (r : ℕ) (hr : r < 512) :
    ∑ s : Fin 16384, (if s.val < i * 512 + r then 1 else 0) * c s.val
      = ∑ k : Fin 512, (if k.val < r then 1 else 0) * c (i * 512 + k.val)
        + ∑ j ∈ Finset.range i, ∑ k : Fin 512, c (j * 512 + k.val) := by
  rw [Fin.sum_univ_tiles 32 512 rfl (fun s : Fin 16384 => (if s.val < i * 512 + r then (1 : EReal) else 0) * c s.val)]
  have h := sum_upto (fun j => ∑ k : Fin 512, c (j * 512 + k.val))
    (fun j => ∑ k : Fin 512, (if k.val < r then 1 else 0) * c (j * 512 + k.val)) i 32
  rw [if_neg (by omega)] at h
  rw [← h, ← Fin.sum_univ_eq_sum_range (fun j => if j < i then ∑ k : Fin 512, c (j * 512 + k.val)
    else if j = i then ∑ k : Fin 512, (if k.val < r then 1 else 0) * c (j * 512 + k.val) else 0) 32]
  refine Finset.sum_congr rfl fun j _ => ?_
  rcases lt_trichotomy j.val i with h | h | h
  · rw [if_pos h]
    refine Finset.sum_congr rfl fun k _ => ?_
    rw [if_pos (by show j.val * 512 + k.val < _; omega), one_mul]
  · rw [if_neg (by omega), if_pos h]
    refine Finset.sum_congr rfl fun k _ => ?_
    by_cases hk : k.val < r
    · rw [if_pos hk, if_pos (by show j.val * 512 + k.val < _; omega)]
    · rw [if_neg hk, if_neg (by show ¬ j.val * 512 + k.val < _; omega)]
  · rw [if_neg (by omega), if_neg (by omega)]
    refine Finset.sum_eq_zero fun k _ => ?_
    rw [if_neg (by show ¬ j.val * 512 + k.val < _; omega), zero_mul]

/-- All rows counted, tile by tile. -/
theorem sum_all (c : ℕ → EReal) :
    ∑ s : Fin 16384, c s.val = ∑ j ∈ Finset.range 32, ∑ k : Fin 512, c (j * 512 + k.val) := by
  rw [Fin.sum_univ_tiles 32 512 rfl (fun s : Fin 16384 => c s.val),
    ← Fin.sum_univ_eq_sum_range (fun j => ∑ k : Fin 512, c (j * 512 + k.val)) 32]

end Cert.Top

end
-- ==== Proof.RouterPay.lean ====
/- What the router kernel computes on one tile of 512 rows, element by element, in terms of the eight
   logits `L r` of each row: the two highest, where they stand, the weights, how many earlier rows of
   the tile chose each expert, and the row of routing data. -/
module

public import proofs.«01_k».proof.Proof.Gen.RouterIdeal.Skeleton
public import proofs.«01_k».proof.Proof.RouterTop
public import Idealize.ShloMosaic.Lib.Pointwise
public import Idealize.ShloMosaic.Lib.WordCmp

@[expose] public section

set_option maxRecDepth 16384

noncomputable section

open Idealize.ShloMosaic Idealize.ShloMosaic.TcCoe

namespace Cert.Top

/-- The bit pattern of negative infinity. -/
theorem ofBits_low : Ideal.ofBits .f32 4286578688#32 = ⊥ := by simp [Ideal.ofBits, Ideal.ieee]

/-- A choice on two equal words. -/
theorem select_eq_word {α : Type} (a b : BitVec 32) (x y : α) :
    Scalar.select (IntOp.cmpi .eq a b) x y = if a = b then x else y := by
  by_cases h : a = b
  · subst h; rw [if_pos rfl]; simp [IntOp.cmpi, Scalar.select]
  · rw [if_neg h]
    show (if BitVec.ofBool (a == b) = 1#1 then x else y) = y
    rw [beq_false_of_ne h]; rfl

/-- The number a word of one bit stands for. -/
theorem uitofp_eq_word (a b : BitVec 32) :
    (FloatOps.uitofp .f32 (IntOp.cmpi .eq a b) : Ideal .f32) = if a = b then 1 else 0 := by
  by_cases h : a = b
  · subst h; rw [if_pos rfl]; simp [IntOp.cmpi, FloatOps.uitofp]
  · rw [if_neg h]
    show (FloatOps.uitofp .f32 (BitVec.ofBool (a == b)) : Ideal .f32) = 0
    rw [beq_false_of_ne h]; simp [FloatOps.uitofp]

/-- The first weight of the two chosen experts. -/
def gate1 (L : Fin 8 → EReal) : EReal := Ideal.div 1 (1 + Ideal.exp (high (rest L) - high L))

/-- The second weight of the two chosen experts. -/
def gate2 (L : Fin 8 → EReal) : EReal :=
  Ideal.div (Ideal.exp (high (rest L) - high L)) (1 + Ideal.exp (high (rest L) - high L))

/-- A row of routing data: the two experts, their weights and the two places among the experts' rows;
    zeros after them. -/
def metaRow (L : Fin 8 → EReal) (before : ℕ → EReal) (l : Fin 128) : EReal :=
  if l.val = 0 then (FloatOps.sitofp .f32 (place L) : Ideal .f32)
  else if l.val = 1 then (FloatOps.sitofp .f32 (place (rest L)) : Ideal .f32)
  else if l.val = 2 then gate1 L
  else if l.val = 3 then gate2 L
  else if l.val = 4 then ∑ e : Fin 8, before e.val * hot (place L) e.val
  else if l.val = 5 then ∑ e : Fin 8, before e.val * hot (place (rest L)) e.val
  else 0

end Cert.Top

namespace Cert.RouterIdeal.Result

open Cert.RouterIdeal Cert.RouterIdeal.Gen Cert.Top

section rows

variable (L : Fin 512 → Fin 8 → EReal) (v19 : IVec S512x128 32) (v30 : FVec Ideal S512x128 .f32)
  (v36 : IVec S512x128 32) (v32 : FVec Ideal S512x1 .f32)
  (h19 : ∀ (r : Fin 512) (l : Fin 128), v19 (ix2 r l) = BitVec.ofNat 32 l.val)
  (h30 : ∀ (r : Fin 512) (l : Fin 128), v30 (ix2 r l) = wide (L r) l)
  (h36 : ∀ (r : Fin 512) (l : Fin 128), v36 (ix2 r l) = if wide (L r) l = high (L r) then BitVec.ofNat 32 l.val else 128#32)
  (h32 : ∀ r : Fin 512, v32 (ix2 r 0) = high (L r))

include h36 in
theorem pay7_at (r : Fin 512) : k0_pay7 v36 (ix2 r 0) = place (L r) := by
  pointwise [k0_pay7, h36]
  rw [← placeOr_wide]; unfold placeOr; rw [high_wide]

include h19 h30 h36 in
theorem pay8_at (r : Fin 512) (l : Fin 128) : k0_pay8 (F := Ideal) v19 v30 v36 (ix2 r l) = wide (rest (L r)) l := by
  pointwise [k0_pay8, pay7_at L v36 h36, h19, h30]
  rw [select_eq_word, ofBits_low, rest_wide]

include h19 h30 h36 in
theorem pay9_at (r : Fin 512) : k0_pay9 (F := Ideal) v19 v30 v36 (ix2 r 0) = high (rest (L r)) := by
  pointwise [k0_pay9, pay8_at L v19 v30 v36 h19 h30 h36]
  rw [ofBits_low, ← high_wide]; rfl

include h19 h30 h36 in
theorem pay10_at (r : Fin 512) : k0_pay10 (F := Ideal) v19 v30 v36 (ix2 r 0) = place (rest (L r)) := by
  pointwise [k0_pay10, pay8_at L v19 v30 v36 h19 h30 h36, pay9_at L v19 v30 v36 h19 h30 h36, h19]
  rw [← placeOr_wide]; unfold placeOr; rw [high_wide]

include h19 h36 in
theorem pay14_at (r : Fin 512) (l : Fin 128) : k0_pay14 (F := Ideal) v19 v36 (ix2 r l) = hot (place (L r)) l.val := by
  pointwise [k0_pay14, pay7_at L v36 h36, h19]
  rw [select_eq_word]; rfl

include h19 h30 h36 in
theorem pay15_at (r : Fin 512) (l : Fin 128) :
    k0_pay15 (F := Ideal) v19 v30 v36 (ix2 r l) = hot (place (rest (L r))) l.val := by
  pointwise [k0_pay15, pay10_at L v19 v30 v36 h19 h30 h36, h19]
  rw [select_eq_word]; rfl

include h19 h30 h36 in
theorem pay16_at (r : Fin 512) (l : Fin 128) : k0_pay16 (F := Ideal) v19 v30 v36 (ix2 r l) = chosen (L r) l.val := by
  pointwise [k0_pay16, pay14_at L v19 v36 h19 h36, pay15_at L v19 v30 v36 h19 h30 h36]
  rfl

include h19 h30 h36 in
theorem pay17_at (r : Fin 512) (l : Fin 128) : k0_pay17 (F := Ideal) v19 v30 v36 (ix2 r l)
    = ∑ k : Fin 512, (if k.val < r.val then 1 else 0) * chosen (L k) l.val := by
  pointwise [k0_pay17, pay16_at L v19 v30 v36 h19 h30 h36]
  refine Finset.sum_congr rfl fun k _ => ?_
  word_cmp
  split
  · rw [one_mul]
  · rw [zero_mul]

include h19 h30 h36 h32 in
theorem pay12_at (r : Fin 512) : k0_pay12 (F := Ideal) v19 v30 v32 v36 (ix2 r 0) = gate1 (L r) := by
  pointwise [k0_pay12, k0_pay11, pay9_at L v19 v30 v36 h19 h30 h36, h32]
  rfl

include h19 h30 h36 h32 in
theorem pay13_at (r : Fin 512) : k0_pay13 (F := Ideal) v19 v30 v32 v36 (ix2 r 0) = gate2 (L r) := by
  pointwise [k0_pay13, k0_pay11, pay9_at L v19 v30 v36 h19 h30 h36, h32]
  rfl

end rows

/-- How many earlier rows chose each expert, of the tile and of the tiles before. -/
def beforeRow (L : Fin 512 → Fin 8 → EReal) (v80 : FVec Ideal S1x128 .f32) (r : Fin 512) (l : ℕ) : EReal :=
  if h : l < 128 then ∑ k : Fin 512, (if k.val < r.val then 1 else 0) * chosen (L k) l + v80 (ix2 0 ⟨l, h⟩) else 0

/-- The row of routing data. -/
theorem meta_at (L : Fin 512 → Fin 8 → EReal) (v19 : IVec S512x128 32) (v30 : FVec Ideal S512x128 .f32)
    (v36 : IVec S512x128 32) (v32 : FVec Ideal S512x1 .f32) (v80 : FVec Ideal S1x128 .f32)
    (h19 : ∀ (r : Fin 512) (l : Fin 128), v19 (ix2 r l) = BitVec.ofNat 32 l.val)
    (h30 : ∀ (r : Fin 512) (l : Fin 128), v30 (ix2 r l) = wide (L r) l)
    (h36 : ∀ (r : Fin 512) (l : Fin 128), v36 (ix2 r l) = if wide (L r) l = high (L r) then BitVec.ofNat 32 l.val else 128#32)
    (h32 : ∀ r : Fin 512, v32 (ix2 r 0) = high (L r)) (r : Fin 512) (l : Fin 128) :
    k0_pay1 (F := Ideal) v19
      (k0_pay19 (k0_pay14 (F := Ideal) v19 v36) (k0_pay17 v19 v30 v36) v80)
      (k0_pay20 (k0_pay15 v19 v30 v36) (k0_pay17 v19 v30 v36) v80)
      (k0_pay22 v19 (k0_pay7 v36) (k0_pay10 v19 v30 v36) (k0_pay12 v19 v30 v32 v36) (k0_pay13 v19 v30 v32 v36))
      4#32 (ix2 r l) = metaRow (L r) (beforeRow L v80 r) l := by
  have e1 : (∑ k : Fin 128, ((∑ s : Fin 512, (if s.val < r.val then 1 else 0) * chosen (L s) k.val) + v80 (ix2 0 k))
      * hot (place (L r)) k.val) = ∑ e : Fin 8, beforeRow L v80 r e.val * hot (place (L r)) e.val := by
    rw [← sum_hot]
    refine Finset.sum_congr rfl fun k _ => ?_
    unfold beforeRow; rw [dif_pos k.isLt]
  have e2 : (∑ k : Fin 128, ((∑ s : Fin 512, (if s.val < r.val then 1 else 0) * chosen (L s) k.val) + v80 (ix2 0 k))
      * hot (place (rest (L r))) k.val) = ∑ e : Fin 8, beforeRow L v80 r e.val * hot (place (rest (L r))) e.val := by
    rw [← sum_hot]
    refine Finset.sum_congr rfl fun k _ => ?_
    unfold beforeRow; rw [dif_pos k.isLt]
  pointwise [k0_pay1, k0_pay19, k0_pay20, k0_pay18, k0_pay22, h19, pay7_at L v36 h36, pay10_at L v19 v30 v36 h19 h30 h36,
    pay12_at L v19 v30 v36 v32 h19 h30 h36 h32, pay13_at L v19 v30 v36 v32 h19 h30 h36 h32,
    pay14_at L v19 v36 h19 h36, pay15_at L v19 v30 v36 h19 h30 h36, pay17_at L v19 v30 v36 h19 h30 h36]
  rw [e1, e2]
  unfold metaRow
  word_cmp
  have hl := l.isLt
  rcases (by omega : l.val = 0 ∨ l.val = 1 ∨ l.val = 2 ∨ l.val = 3 ∨ l.val = 4 ∨ l.val = 5 ∨ 6 ≤ l.val)
    with h | h | h | h | h | h | h
  all_goals first
    | simp only [h, if_true, if_false, Nat.reduceEqDiff]
    | (repeat rw [if_neg (by omega)])

/-- The running counts after a tile. -/
theorem counts_at (v70 : FVec Ideal S512x128 .f32) (v89 : FVec Ideal S1x128 .f32) (l : Fin 128) :
    k0_pay21 (F := Ideal) v70 v89 (ix2 0 l) = v89 (ix2 0 l) + ∑ r : Fin 512, v70 (ix2 r l) := by
  pointwise [k0_pay21]

/-- One normalised element. -/
theorem normed_at (x : FVec Ideal S512x1024 .f32) (g : FVec Ideal S1x1024 .f32) (r : Fin 512) (k : Fin 1024) :
    k0_pay3 (F := Ideal) x g (ix2 r k) = x (ix2 r k) *
      Ideal.rsqrt (Ideal.div (∑ l : Fin 1024, x (ix2 r l) * x (ix2 r l)) (Ideal.ofBits .f32 1149239296#32)
        + Ideal.ofBits .f32 897988541#32) * g (ix2 0 k) := by
  pointwise [k0_pay3]

/-- One logit of a tile, weights and bias laid over 128 lanes. -/
theorem logits_at (x : FVec Ideal S512x1024 .f32) (g : FVec Ideal S1x1024 .f32) (w : FVec Ideal S1024x128 .f32)
    (b : FVec Ideal S1x128 .f32) (r : Fin 512) (l : Fin 128) :
    k0_pay4 (F := Ideal) x g w b (ix2 r l) = wide (fun e : Fin 8 =>
      (∑ k : Fin 1024, k0_pay3 (F := Ideal) x g (ix2 r k) * w (ix2 k ⟨e.val, by omega⟩)) + b (ix2 0 ⟨e.val, by omega⟩)) l := by
  pointwise [k0_pay4]
  word_cmp
  unfold wide
  split
  · rfl
  · exact ofBits_low

/-- The highest logit of a row. -/
theorem pay5_at (L : Fin 512 → Fin 8 → EReal) (x : FVec Ideal S512x1024 .f32) (g : FVec Ideal S1x1024 .f32)
    (w : FVec Ideal S1024x128 .f32) (b : FVec Ideal S1x128 .f32)
    (h30 : ∀ (r : Fin 512) (l : Fin 128), k0_pay4 (F := Ideal) x g w b (ix2 r l) = wide (L r) l) (r : Fin 512) :
    k0_pay5 (F := Ideal) x g w b (ix2 r 0) = high (L r) := by
  pointwise [k0_pay5, h30]
  rw [ofBits_low, ← high_wide]; rfl

/-- The lanes at which a row attains its highest logit. -/
theorem pay6_at (L : Fin 512 → Fin 8 → EReal) (x : FVec Ideal S512x1024 .f32) (g : FVec Ideal S1x1024 .f32)
    (w : FVec Ideal S1024x128 .f32) (b : FVec Ideal S1x128 .f32)
    (h30 : ∀ (r : Fin 512) (l : Fin 128), k0_pay4 (F := Ideal) x g w b (ix2 r l) = wide (L r) l) (r : Fin 512) (l : Fin 128) :
    k0_pay6 (F := Ideal) x g w b (ix2 r l) = if wide (L r) l = high (L r) then BitVec.ofNat 32 l.val else 128#32 := by
  pointwise [k0_pay6, pay5_at L x g w b h30, h30]

end Cert.RouterIdeal.Result

end
-- ==== Proof.RouterSort.lean ====
/- The first two of a row of eight, sorted greatest first with equals in their order, are its two
   highest as `RouterTop` takes them. Pure facts: no program is mentioned. -/
module

public import proofs.«01_k».proof.Proof.RouterTop
public import Idealize.ShloMosaic.Lib.SortPrefix

@[expose] public section

set_option maxRecDepth 16384

noncomputable section

open Idealize.ShloMosaic

namespace Cert.Top

/-- The greater of two places' numbers comes first. -/
def greater (L : Fin 8 → EReal) (a b : Fin 8) : Bool := decide (L b < L a)

/-- The greater number first, and of equal numbers the lower place. -/
def ahead (L : Fin 8 → EReal) (a b : Fin 8) : Bool :=
  decide (L b < L a) || (decide (L a = L b) && decide (a < b))

theorem ahead_total (L : Fin 8 → EReal) : StrictTotalBefore (ahead L) :=
  StrictTotalBefore.of_key_then_position (fun a b : EReal => decide (b < a)) L (fun a => by simp)
    (fun a b c hab hbc => by simp only [decide_eq_true_eq] at *; exact hbc.trans hab)
    (fun a b => by simp only [decide_eq_true_eq]; rcases lt_trichotomy a b with h | h | h <;> tauto)

/-- A sort that keeps equals in their order decides ties by the place. -/
theorem sort_ties (L : Fin 8 → EReal) : ∀ l : List (Fin 8), l.Pairwise (· < ·) →
    stableSort (greater L) l = stableSort (ahead L) l
  | [], _ => rfl
  | a :: l, h => by
    rw [List.pairwise_cons] at h
    unfold stableSort
    rw [sort_ties L l h.2]
    refine insertBefore_congr _ _ a _ fun b hb => ?_
    have hab : a < b := h.1 b ((perm_stableSort (ahead L) l).mem_iff.mp hb)
    simp [greater, ahead, hab.le]

theorem sorted_ties (L : Fin 8 → EReal) : sortedFrom (greater L) = sortedFrom (ahead L) := by
  funext k
  unfold sortedFrom
  rw [List.get_of_eq (show sortPositions 8 (greater L) = sortPositions 8 (ahead L) from sort_ties L _ (List.pairwise_lt_finRange 8))]
  rfl

/-- The place of the highest number: it holds the highest number and no lower place does. -/
theorem place_spec (L : Fin 8 → EReal) :
    ∃ k : Fin 8, place L = BitVec.ofNat 32 k.val ∧ L k = high L ∧ ∀ j, L j = high L → k ≤ j := by
  classical
  obtain ⟨l, hl⟩ := high_attained L
  have hne : ((Finset.univ : Finset (Fin 8)).filter fun j => L j = high L).Nonempty := ⟨l, by simp [hl]⟩
  refine ⟨Finset.min' _ hne, ?_, by simpa using Finset.min'_mem _ hne, fun j hj => Finset.min'_le _ _ (by simp [hj])⟩
  set k := Finset.min' _ hne with hk
  have hkh : L k = high L := by simpa using Finset.min'_mem _ hne
  have h8 : (8#32).toInt = 8 := by decide
  have hM : (2147483647#32).toInt = 2147483647 := by decide
  have hk8 := k.isLt
  refine BitVec.eq_of_toInt_eq (le_antisymm ?_ ((le_min _ _ _).2 ⟨?_, fun j => ?_⟩))
  · have h := placeOr_le 8#32 L k; rwa [if_pos hkh] at h
  · rw [toInt_ofNat _ (by omega), hM]; omega
  · rw [toInt_ofNat _ (by omega)]
    split
    · rename_i hj
      have h : k ≤ j := Finset.min'_le _ _ (by simp [hj])
      rw [toInt_ofNat _ (by omega)]
      exact_mod_cast h
    · rw [h8]; omega

theorem ofNat_inj {a b : Fin 8} : BitVec.ofNat 32 a.val = BitVec.ofNat 32 b.val ↔ a = b := by
  refine ⟨fun h => Fin.ext ?_, fun h => by rw [h]⟩
  have := congrArg BitVec.toNat h
  simp only [BitVec.toNat_ofNat] at this
  omega

/-- Nothing is ahead of the lowest place of the highest number. -/
theorem not_ahead {L : Fin 8 → EReal} {k : Fin 8} (hk : L k = high L) (hl : ∀ j, L j = high L → k ≤ j) (p : Fin 8) :
    ahead L p k = false := by
  unfold ahead
  have h1 : ¬ L k < L p := not_lt.2 (hk ▸ le_high L p)
  have h2 : ¬ (L p = L k ∧ p < k) := fun h => absurd (hl p (h.1.trans hk)) (not_le.2 h.2)
  simp only [h1, decide_false, Bool.false_or, Bool.and_eq_false_iff, decide_eq_false_iff_not]
  tauto

/-- The first of the sorted row. -/
theorem sorted_first (L : Fin 8 → EReal) :
    L (sortedFrom (greater L) 0) = high L ∧ BitVec.ofNat 32 (sortedFrom (greater L) 0).val = place L := by
  obtain ⟨k, hp, hk, hl⟩ := place_spec L
  have h : sortedFrom (ahead L) 0 = k :=
    (ahead_total L).sortedFrom_eq_of_prefix (k := 1) (by decide) (fun _ => k) (fun _ _ _ => Subsingleton.elim _ _)
      (fun i j hij => by omega) (fun _ p _ => not_ahead hk hl p) 0
  rw [sorted_ties, h, hp]
  exact ⟨hk, rfl⟩

/-- The second of the sorted row, where it is above negative infinity. -/
theorem sorted_second (L : Fin 8 → EReal) :
    L (sortedFrom (greater L) 1) = high (rest L)
      ∧ (if ⊥ < high (rest L) then BitVec.ofNat 32 (sortedFrom (greater L) 1).val else 0#32) = place (rest L) := by
  obtain ⟨k, hp, hk, hl⟩ := place_spec L
  obtain ⟨q, hq, hqk, hql⟩ := place_spec (rest L)
  have hrk : rest L k = ⊥ := by unfold rest; rw [if_pos hp.symm]
  have hr : ∀ p, p ≠ k → rest L p = L p := fun p hpk => by
    unfold rest; rw [if_neg]; rw [hp, ofNat_inj]; exact hpk
  rw [sorted_ties]
  by_cases hb : ⊥ < high (rest L)
  · have hne : q ≠ k := fun h => by rw [h, hrk] at hqk; exact absurd hqk hb.ne
    have h : sortedFrom (ahead L) 1 = q :=
      (ahead_total L).sortedFrom_eq_of_prefix (k := 2) (by decide) ![k, q]
        (by intro i j; fin_cases i <;> fin_cases j <;> simp [hne, hne.symm])
        (by
          intro i j hij
          fin_cases i <;> fin_cases j <;> first | exact absurd hij (by decide) | exact not_ahead hk hl q)
        (by
          intro i p hpn
          have hpk : p ≠ k := fun h => hpn 0 h.symm
          have hpq : p ≠ q := fun h => hpn 1 h.symm
          fin_cases i
          · exact not_ahead hk hl p
          · have h := not_ahead hqk hql p
            unfold ahead at h ⊢
            rwa [hr p hpk, hr q hne] at h) 1
    rw [h, if_pos hb, hq]
    exact ⟨(hr q hne).symm.trans hqk, rfl⟩
  · have hbot : high (rest L) = ⊥ := le_bot_iff.1 (not_lt.1 hb)
    have h0 : sortedFrom (ahead L) 0 = k :=
      (ahead_total L).sortedFrom_eq_of_prefix (k := 1) (by decide) (fun _ => k) (fun _ _ _ => Subsingleton.elim _ _)
        (fun i j hij => by omega) (fun _ p _ => not_ahead hk hl p) 0
    have hne : sortedFrom (ahead L) 1 ≠ k := fun h =>
      absurd (sortedFrom_injective (ahead L) (h.trans h0.symm)) (by decide)
    have hz : q = 0 := le_antisymm (hql 0 (le_antisymm (le_high _ _) (by rw [hbot]; exact bot_le))) (Fin.zero_le _)
    rw [if_neg hb, hq, hz, ← hr _ hne]
    refine ⟨le_antisymm (le_high _ _) (by rw [hbot]; exact bot_le), rfl⟩

end Cert.Top

end
-- ==== Proof.RouterRefRows.lean ====
/- The router's reference, element by element, in terms of the eight logits of each row: the two
   highest, where they stand, the weights, how many earlier rows chose each expert, the counts. -/
module

public import proofs.«01_k».proof.Proof.Gen.RouterRefIdeal.Read
public import proofs.«01_k».proof.Proof.RouterPay
public import proofs.«01_k».proof.Proof.RouterSort

@[expose] public section

set_option maxRecDepth 16384

noncomputable section

open Idealize.ShloMosaic Idealize.ShloMosaic.TcCoe

namespace Cert.RouterRefIdeal.Rows

open Cert.RouterRefIdeal Cert.RouterRefIdeal.Read Cert.Top

variable (x : FVec Ideal S16384x1024 .f32) (g : FVec Ideal S1024 .f32) (w : FVec Ideal S1024x8 .f32) (b : FVec Ideal S8 .f32)

/-- The logits of row `t`. -/
def logit (t : Fin 16384) (e : Fin 8) : EReal := val_main_v16 (F := Ideal) x g w b (ix2 t e)

/-- One normalised element. -/
theorem normed_at (t : Fin 16384) (k : Fin 1024) :
    val_main_v12 (F := Ideal) x g (ix2 t k) = x (ix2 t k) *
      Ideal.rsqrt (Ideal.div (∑ l : Fin 1024, x (ix2 t l) * x (ix2 t l)) (Ideal.ofBits .f32 1149239296#32)
        + Ideal.ofBits .f32 897988541#32) * g (ix1 k) := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

theorem logit_eq (t : Fin 16384) (e : Fin 8) :
    logit x g w b t e = (∑ k : Fin 1024, val_main_v12 (F := Ideal) x g (ix2 t k) * w (ix2 k e)) + b (ix1 e) := by
  unfold logit
  pointwise [val_main_v16, val_main_v15, val_main_v14, val_main_v13]

/-- The compare the sort takes, on a row of logits. -/
theorem order_at (t : Fin 16384) :
    (fun k k' : Fin 8 => FloatOps.cmpfTotal (F := Ideal) (φ := .f32) CmpDirection.gt (logit x g w b t k) (logit x g w b t k') == 1#1)
      = greater (logit x g w b t) := by
  funext k k'
  rw [Ideal.cmpfTotal_def]
  unfold greater
  by_cases h : logit x g w b t k' < logit x g w b t k
  · simp [Ideal.cmp, CmpDirection.ordered, h]
  · simp [Ideal.cmp, CmpDirection.ordered, h]

/-- An index with its second coordinate replaced. -/
theorem along_at (t : Fin 16384) (j k : Fin 8) : (ix2 t j : S16384x8.Idx).along (1 : Fin 2) k = ix2 t k := by
  funext a; fin_cases a <;> rfl

/-- A row's entry after the sort of the rows, and another array's entry moved along with it. -/
theorem sort_at {β : Type} (L : S16384x8.Idx → EReal) (y : S16384x8.Idx → β) (t : Fin 16384) (q : Fin 8) :
    (Host.sort2 S16384x8 1 (fun l r => FloatOps.cmpfTotal (F := Ideal) (φ := .f32) CmpDirection.gt l.1 r.1) L y).1 (ix2 t q)
        = L (ix2 t (sortedFrom (fun k k' : Fin 8 => FloatOps.cmpfTotal (F := Ideal) (φ := .f32) CmpDirection.gt
            (L (ix2 t k)) (L (ix2 t k')) == 1#1) q))
      ∧ (Host.sort2 S16384x8 1 (fun l r => FloatOps.cmpfTotal (F := Ideal) (φ := .f32) CmpDirection.gt l.1 r.1) L y).2 (ix2 t q)
        = y (ix2 t (sortedFrom (fun k k' : Fin 8 => FloatOps.cmpfTotal (F := Ideal) (φ := .f32) CmpDirection.gt
            (L (ix2 t k)) (L (ix2 t k')) == 1#1) q)) := by
  have hR : (fun k k' : Fin 8 => FloatOps.cmpfTotal (F := Ideal) (φ := .f32) CmpDirection.gt
        (L ((ix2 t q : S16384x8.Idx).along (1 : Fin 2) k)) (L ((ix2 t q : S16384x8.Idx).along (1 : Fin 2) k')) == 1#1)
      = fun k k' : Fin 8 => FloatOps.cmpfTotal (F := Ideal) (φ := .f32) CmpDirection.gt (L (ix2 t k)) (L (ix2 t k')) == 1#1 :=
    funext fun k => funext fun k' => by rw [along_at, along_at]
  rw [← hR]
  exact ⟨congrArg L (along_at t q _), congrArg y (along_at t q _)⟩

/-- The numbers of the two first of a row. -/
theorem values_at (t : Fin 16384) (j : Fin 2) : val_main_values (F := Ideal) x g w b (ix2 t j)
    = logit x g w b t (sortedFrom (greater (logit x g w b t)) (j.castLE (by decide))) := by
  unfold val_main_values Host.topK
  pointwise []
  rw [← order_at]
  exact (sort_at (val_main_v16 (F := Ideal) x g w b) _ t (j.castLE (by decide))).1

/-- The places of the two first of a row. -/
theorem indices_at (t : Fin 16384) (j : Fin 2) : val_main_indices (F := Ideal) x g w b (ix2 t j)
    = BitVec.ofNat 32 (sortedFrom (greater (logit x g w b t)) (j.castLE (by decide))).val := by
  unfold val_main_indices Host.topK
  pointwise []
  rw [← order_at]
  exact (sort_at (val_main_v16 (F := Ideal) x g w b) _ t (j.castLE (by decide))).2

theorem high_at (t : Fin 16384) : val_main_v19 (F := Ideal) x g w b (ix2 t 0) = high (logit x g w b t) := by
  pointwise [val_main_v19]
  exact (values_at x g w b t 0).trans (sorted_first _).1

theorem place_at (t : Fin 16384) : val_main_v21 (F := Ideal) x g w b (ix2 t 0) = place (logit x g w b t) := by
  pointwise [val_main_v21]
  exact (indices_at x g w b t 0).trans (sorted_first _).2

theorem high2_at (t : Fin 16384) : val_main_v20 (F := Ideal) x g w b (ix2 t 0) = high (rest (logit x g w b t)) := by
  pointwise [val_main_v20]
  exact (values_at x g w b t 1).trans (sorted_second _).1

theorem place2_at (t : Fin 16384) : val_main_v25 (F := Ideal) x g w b (ix2 t 0) = place (rest (logit x g w b t)) := by
  rw [← (sorted_second (logit x g w b t)).2]
  pointwise [val_main_v25, val_main_v24, val_main_v23, val_main_v22, val_main_cst_2, val_main_call0_v1, val_main_call0_v0,
    val_main_c, high2_at]
  rw [ofBits_low, show val_main_indices (F := Ideal) x g w b (ix2 t 1) = _ from indices_at x g w b t 1]
  rfl

theorem gate1_at (t : Fin 16384) : val_main_v31 (F := Ideal) x g w b (ix2 t 0) = gate1 (logit x g w b t) := by
  pointwise [val_main_v31, val_main_v30, val_main_cst_4, val_main_v29, val_main_v28, val_main_cst_3, val_main_v27,
    val_main_v26, high_at, high2_at]
  rfl

theorem gate2_at (t : Fin 16384) : val_main_v34 (F := Ideal) x g w b (ix2 t 0) = gate2 (logit x g w b t) := by
  pointwise [val_main_v34, val_main_v33, val_main_v32, val_main_cst_5, val_main_v27, val_main_v26, high_at, high2_at]
  rfl

theorem first_at (t : Fin 16384) (e : Fin 8) :
    val_main_v38 (F := Ideal) x g w b (ix2 t e) = hot (place (logit x g w b t)) e.val := by
  pointwise [val_main_v38, val_main_v37, val_main_v36, val_main_v35, val_main_v18, val_main_v17, place_at]
  rw [uitofp_eq_word]; rfl

theorem second_at (t : Fin 16384) (e : Fin 8) :
    val_main_v42 (F := Ideal) x g w b (ix2 t e) = hot (place (rest (logit x g w b t))) e.val := by
  pointwise [val_main_v42, val_main_v41, val_main_v40, val_main_v39, val_main_v18, val_main_v17, place2_at]
  rw [uitofp_eq_word]; rfl

theorem chosen_at (t : Fin 16384) (e : Fin 8) :
    val_main_v43 (F := Ideal) x g w b (ix2 t e) = chosen (logit x g w b t) e.val := by
  pointwise [val_main_v43, first_at, second_at]
  rfl

/-- One where row `s` comes before row `t`. -/
theorem earlier_at (t s : Fin 16384) : val_main_v50 (F := Ideal) (ix2 t s) = if s.val < t.val then 1 else 0 := by
  pointwise [val_main_v50, val_main_v49, val_main_v48, val_main_v47, val_main_v46, val_main_v45, val_main_v44]
  word_cmp
  by_cases h : s.val < t.val
  · simp [FloatOps.uitofp, h]
  · simp [FloatOps.uitofp, h]

theorem before_at (t : Fin 16384) (e : Fin 8) : val_main_v51 (F := Ideal) x g w b (ix2 t e)
    = ∑ s : Fin 16384, (if s.val < t.val then 1 else 0) * chosen (logit x g w b s) e.val := by
  pointwise [val_main_v51, earlier_at, chosen_at]

/-- How many earlier rows chose each expert. -/
def before (t : Fin 16384) (e : ℕ) : EReal :=
  ∑ s : Fin 16384, (if s.val < t.val then 1 else 0) * chosen (logit x g w b s) e

/-- The rows of routing data. -/
theorem meta_at (t : Fin 16384) (l : Fin 128) : val_main_v62 (F := Ideal) x g w b (ix2 t l)
    = metaRow (logit x g w b t) (before x g w b t) l := by
  have r1 : val_main_v54 (F := Ideal) x g w b (ix2 t 0)
      = ∑ e : Fin 8, before x g w b t e.val * hot (place (logit x g w b t)) e.val := by
    pointwise [val_main_v54, val_main_v53, val_main_cst_6, val_main_v52, before_at, first_at]
    rfl
  have r2 : val_main_v57 (F := Ideal) x g w b (ix2 t 0)
      = ∑ e : Fin 8, before x g w b t e.val * hot (place (rest (logit x g w b t))) e.val := by
    pointwise [val_main_v57, val_main_v56, val_main_cst_7, val_main_v55, before_at, second_at]
    rfl
  pointwise [val_main_v62, val_main_v61, val_main_cst_9, val_main_v60, val_main_v59]
  unfold metaRow
  have hl := l.isLt
  rcases (by omega : l.val = 0 ∨ l.val = 1 ∨ l.val = 2 ∨ l.val = 3 ∨ l.val = 4 ∨ l.val = 5 ∨ 6 ≤ l.val)
    with h | h | h | h | h | h | h
  · rw [dif_pos (by omega), if_pos h, ← place_at]; simp only [h]; rfl
  · simp only [h]; simp; rw [← place2_at]
  · simp only [h]; simp; rw [← gate1_at]
  · simp only [h]; simp; rw [← gate2_at]
  · simp only [h]; simp; rw [← r1]
  · simp only [h]; simp; rw [← r2]
  · repeat rw [dif_neg (by omega)]
    repeat rw [if_neg (by omega)]

/-- The counts, over 128 lanes. -/
theorem counts_at (l : Fin 128) : val_main_v64 (F := Ideal) x g w b (ix2 0 l)
    = ∑ s : Fin 16384, chosen (logit x g w b s) l.val := by
  pointwise [val_main_v64, val_main_v63, val_main_call1_v0, val_main_c_10, val_main_v58, val_main_cst_8]
  by_cases h : l.val < 8
  · rw [dif_pos h]
    exact Finset.sum_congr rfl fun s _ => chosen_at x g w b s ⟨l.val, h⟩
  · rw [dif_neg h]
    refine Eq.trans (b := (0 : EReal)) (by simp [FloatOps.sitofp]) (Finset.sum_eq_zero fun s _ => chosen_far _ _ (by omega) l.isLt).symm

end Cert.RouterRefIdeal.Rows

end
-- ==== Proof.RouterValue.lean ====
/- The router: after the kernel's run its three result arrays are the reference's own terms of the four
   arguments: the normalised rows, the routing data of every row, and how many rows chose each expert.
   The counts are carried from tile to tile. -/
module

public import proofs.«01_k».proof.Proof.RouterBlocks
public import proofs.«01_k».proof.Proof.RouterRefRows
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RouterIdeal.Result

open Cert.RouterIdeal Cert.RouterIdeal.Gen Cert.Top

variable (m : (ℓ : Loc nD τ sig) → Buf (Elt Ideal) ℓ)

/-- The logits of a row of the activations. -/
abbrev lg (c : Dev nD) : Fin 16384 → Fin 8 → EReal :=
  Cert.RouterRefIdeal.Rows.logit (m ((c : Thread nD τ).loc main_arg0)) (m ((c : Thread nD τ).loc main_arg1))
    (m ((c : Thread nD τ).loc main_arg2)) (m ((c : Thread nD τ).loc main_arg3))

/-- The logits of a row of point `t`'s tile. -/
abbrev tile (c : Dev nD) (t : Fin cfg0.N) (r : Fin 512) : Fin 8 → EReal := lg m c (rowOf t r)

/-- Whether row `n` chose the expert of lane `l`. -/
def took (c : Dev nD) (l n : ℕ) : EReal := if h : n < 16384 then chosen (lg m c ⟨n, h⟩) l else 0

theorem took_row (c : Dev nD) (l : ℕ) (s : Fin 16384) : took m c l s.val = chosen (lg m c s) l := by
  unfold took; rw [dif_pos s.isLt]

/-- How many rows before tile `i` chose the expert of lane `l`. -/
def sofar (c : Dev nD) (l i : ℕ) : EReal := ∑ j ∈ Finset.range i, ∑ k : Fin 512, took m c l (j * 512 + k.val)

/-- The normalised rows of a tile are the reference's. -/
theorem normed_tile (c : Dev nD) (t : Fin cfg0.N) (r : Fin 512) (k : Fin 1024) :
    k0_pay3 (F := Ideal) (iblk m c 0 t) (iblk m c 1 t) (ix2 r k)
      = Cert.RouterRefIdeal.Read.val_main_v12 (F := Ideal) (m ((c : Thread nD τ).loc main_arg0))
          (m ((c : Thread nD τ).loc main_arg1)) (ix2 (rowOf t r) k) := by
  rw [normed_at, Cert.RouterRefIdeal.Rows.normed_at]
  simp only [blk0, blk1]

/-- The logits of a tile are the reference's, over 128 lanes. -/
theorem logits_tile (c : Dev nD) (t : Fin cfg0.N) (r : Fin 512) (l : Fin 128) :
    k0_pay4 (F := Ideal) (iblk m c 0 t) (iblk m c 1 t) (iblk m c 2 t) (iblk m c 3 t) (ix2 r l) = wide (tile m c t r) l := by
  rw [logits_at]
  refine congrArg (fun L => wide L l) (funext fun e => ?_)
  rw [tile, lg, Cert.RouterRefIdeal.Rows.logit_eq]
  simp only [normed_tile, blk2, blk3]

/-- The lane numbers. -/
theorem lanes (r : Fin 512) (l : Fin 128) :
    iota Kind.tc S512x128 32 [1] iota_S512x128_d1_w32 (ix2 r l) = BitVec.ofNat 32 l.val := by
  pointwise []

/-- The experts the rows of a tile chose. -/
theorem chosen_tile (c : Dev nD) (t : Fin cfg0.N) (r : Fin 512) (l : Fin 128) :
    k0_pay16 (F := Ideal) (iota Kind.tc S512x128 32 [1] iota_S512x128_d1_w32)
      (k0_pay4 (iblk m c 0 t) (iblk m c 1 t) (iblk m c 2 t) (iblk m c 3 t))
      (k0_pay6 (iblk m c 0 t) (iblk m c 1 t) (iblk m c 2 t) (iblk m c 3 t)) (ix2 r l) = took m c l.val (t.val * 512 + r.val) :=
  (pay16_at (tile m c t) _ _ _ lanes (logits_tile m c t) (pay6_at (tile m c t) _ _ _ _ (logits_tile m c t)) r l).trans
    (took_row m c l.val (rowOf t r)).symm

/-- The carried counts before the first tile. -/
theorem start_at (l : Fin 128) : k0_pay2 (F := Ideal) (ix2 0 l) = 0 := by
  pointwise [k0_pay2]

/-- The counts a tile adds to what it found. -/
theorem counts_tile (c : Dev nD) (t : Fin cfg0.N) (v : FVec Ideal S1x128 .f32) (l : Fin 128)
    (hv : v (ix2 0 l) = sofar m c l.val t.val) :
    k0_pay21 (F := Ideal) (k0_pay16 (F := Ideal) (iota Kind.tc S512x128 32 [1] iota_S512x128_d1_w32)
      (k0_pay4 (iblk m c 0 t) (iblk m c 1 t) (iblk m c 2 t) (iblk m c 3 t))
      (k0_pay6 (iblk m c 0 t) (iblk m c 1 t) (iblk m c 2 t) (iblk m c 3 t))) v (ix2 0 l) = sofar m c l.val (t.val + 1) := by
  rw [counts_at, hv]
  unfold sofar
  rw [Finset.sum_range_succ]
  exact congrArg _ (Finset.sum_congr rfl fun r _ => chosen_tile m c t r l)

/-- The counts carried from one tile to the next. -/
theorem carried (c : Dev nD) (l : Fin 128) : ∀ (n : ℕ) (hn : n < cfg0.N),
    (outsAt0 m c n hn).2.2.2 (ix2 0 l) = sofar m c l.val (n + 1)
  | 0, hn => by
    have h := outsAt0_A m c ⟨0, hn⟩ (Nat.zero_mod _)
    dsimp only at h
    rw [h]; frame_out
    exact counts_tile m c ⟨0, hn⟩ _ l ((start_at l).trans (by unfold sofar; rfl))
  | n + 1, hn => by
    have hN : n + 1 < 32 := hn
    have h := outsAt0_B m c ⟨n + 1, hn⟩ (by show ¬(n + 1) % 32 = 0; omega)
    dsimp only at h
    rw [h]; frame_out
    rw [read_unread_whole]
    exact counts_tile m c ⟨n + 1, hn⟩ _ l (carried c l n (Nat.lt_of_succ_lt hn))

/-- The counts a point stores are those it carries on. -/
theorem stored (c : Dev nD) (t : Fin cfg0.N) : (outsAt0 m c t.val t.isLt).2.2.1 = (outsAt0 m c t.val t.isLt).2.2.2 := by
  by_cases h0 : t.val % 32 = 0
  · rw [outsAt0_A m c t h0]; frame_out
  · rw [outsAt0_B m c t h0]; frame_out

/-- The earlier rows that chose an expert: those of the tiles before and those of the tile. -/
theorem before_tile (c : Dev nD) (t : Fin cfg0.N) (v : FVec Ideal S1x128 .f32)
    (hv : ∀ l : Fin 128, v (ix2 0 l) = sofar m c l.val t.val) (r : Fin 512) (e : Fin 8) :
    beforeRow (tile m c t) v r e.val = Cert.RouterRefIdeal.Rows.before (m ((c : Thread nD τ).loc main_arg0))
      (m ((c : Thread nD τ).loc main_arg1)) (m ((c : Thread nD τ).loc main_arg2)) (m ((c : Thread nD τ).loc main_arg3))
      (rowOf t r) e.val := by
  have ht : t.val < 32 := t.isLt
  have h := sum_before (took m c e.val) t.val ht r.val r.isLt
  unfold beforeRow
  rw [dif_pos (by omega), hv]
  refine Eq.trans (congrArg (· + _) (Finset.sum_congr rfl fun k _ => ?_)) (h.symm.trans (Finset.sum_congr rfl fun s _ => ?_))
  · rw [← took_row m c e.val (rowOf t k)]
  · rw [took_row]

/-- A row of routing data depends on the counts at the eight experts only. -/
theorem metaRow_congr (L : Fin 8 → EReal) (f g : ℕ → EReal) (h : ∀ e : Fin 8, f e.val = g e.val) (l : Fin 128) :
    metaRow L f l = metaRow L g l := by
  unfold metaRow; simp only [h]

/-- The routing data of a tile. -/
theorem meta_tile (c : Dev nD) (t : Fin cfg0.N) (r : Fin 512) (l : Fin 128) :
    (outsAt0 m c t.val t.isLt).2.1 (ix2 r l) = Cert.RouterRefIdeal.Read.val_main_v62 (F := Ideal) (m ((c : Thread nD τ).loc main_arg0))
      (m ((c : Thread nD τ).loc main_arg1)) (m ((c : Thread nD τ).loc main_arg2)) (m ((c : Thread nD τ).loc main_arg3))
      (ix2 (rowOf t r) l) := by
  rw [Cert.RouterRefIdeal.Rows.meta_at]
  by_cases h0 : t.val % 32 = 0
  · rw [outsAt0_A m c t h0]; frame_out
    refine (meta_at (tile m c t) _ _ _ _ _ lanes (logits_tile m c t) (pay6_at (tile m c t) _ _ _ _ (logits_tile m c t))
      (pay5_at (tile m c t) _ _ _ _ (logits_tile m c t)) r l).trans (metaRow_congr _ _ _ (before_tile m c t _ (fun l => ?_) r) l)
    have ht : t.val < 32 := t.isLt
    rw [start_at, show t.val = 0 by omega]; unfold sofar; rfl
  · rw [outsAt0_B m c t h0]; frame_out
    rw [read_unread_whole]
    refine (meta_at (tile m c t) _ _ _ _ _ lanes (logits_tile m c t) (pay6_at (tile m c t) _ _ _ _ (logits_tile m c t))
      (pay5_at (tile m c t) _ _ _ _ (logits_tile m c t)) r l).trans (metaRow_congr _ _ _ (before_tile m c t _ (fun l => ?_) r) l)
    have ht : 0 < t.val := by omega
    rw [carried, show t.val - 1 + 1 = t.val by omega]

/-- The normalised rows after the run. -/
theorem final_h (c : Dev nD) : (dats m 0 c).arrAt 4 (cfgs 0).N
    = Cert.RouterRefIdeal.Read.val_main_v12 (F := Ideal) (m ((c : Thread nD τ).loc main_arg0)) (m ((c : Thread nD τ).loc main_arg1)) := by
  refine (dats m 0 c).arrAt_eq_of_covers 4 _ (by decide +kernel) fun t _ y => ?_
  obtain ⟨i, l, rfl⟩ : ∃ (i : Fin 512) (l : Fin 1024), y = ix2 i l := ⟨y 0, y 1, eq_ix2 y⟩
  rw [place4, ← normed_tile]
  blk_simp
  rw [after0_4]
  by_cases h0 : t.val % 32 = 0
  · rw [outsAt0_A m c t h0]; frame_out
  · rw [outsAt0_B m c t h0]; frame_out

/-- The routing data after the run. -/
theorem final_meta (c : Dev nD) : (dats m 0 c).arrAt 5 (cfgs 0).N
    = Cert.RouterRefIdeal.Read.val_main_v62 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨i, l, rfl⟩ : ∃ (i : Fin 512) (l : Fin 128), y = ix2 i l := ⟨y 0, y 1, eq_ix2 y⟩
  rw [place5, ← meta_tile]
  blk_simp
  rw [after0_5]

/-- The counts after the run. -/
theorem final_counts (c : Dev nD) : (dats m 0 c).arrAt 6 (cfgs 0).N
    = Cert.RouterRefIdeal.Read.val_main_v64 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  obtain ⟨i, l, rfl⟩ : ∃ (i : Fin 1) (l : Fin 128), y = ix2 i l := ⟨y 0, y 1, eq_ix2 y⟩
  obtain rfl : i = 0 := Subsingleton.elim _ _
  have hm : t.val % 32 = 31 := (flush0_6 t).mp hf
  have ht : t.val < 32 := t.isLt
  rw [place6, Cert.RouterRefIdeal.Rows.counts_at]
  blk_simp
  rw [after0_6, stored, carried, show t.val + 1 = 32 by omega]
  refine (sum_all (took m c l.val)).symm.trans (Finset.sum_congr rfl fun s _ => took_row m c l.val s)

end Cert.RouterIdeal.Result

end
-- ==== Proof.RouterRun.lean ====
/- The run of the router: after it the three result arrays hold the
   reference's terms and the arguments are as they were. -/
module

public import proofs.«01_k».proof.Proof.RouterValue

@[expose] public section

set_option maxRecDepth 16384

noncomputable section

open Idealize.ShloMosaic Idealize.ShloMosaic.TcCoe Idealize.SL.Sem

namespace Cert.RouterIdeal.Result

open Cert.RouterIdeal Cert.RouterIdeal.Gen Cert.RouterRefIdeal.Read

variable (m : (ℓ : Loc nD τ sig) → Buf (Elt Ideal) ℓ) (ρ : Dev nD → PrngReg)

/-- The normalised rows of the arguments. -/
def hOf (c : Dev nD) := val_main_v12 (F := Ideal) (m ((c : Thread nD τ).loc main_arg0)) (m ((c : Thread nD τ).loc main_arg1))

/-- The routing data of the arguments. -/
def metaOf (c : Dev nD) := val_main_v62 (F := Ideal) (m ((c : Thread nD τ).loc main_arg0)) (m ((c : Thread nD τ).loc main_arg1)) (m ((c : Thread nD τ).loc main_arg2)) (m ((c : Thread nD τ).loc main_arg3))

/-- The experts' counts of the arguments. -/
def countsOf (c : Dev nD) := val_main_v64 (F := Ideal) (m ((c : Thread nD τ).loc main_arg0)) (m ((c : Thread nD τ).loc main_arg1)) (m ((c : Thread nD τ).loc main_arg2)) (m ((c : Thread nD τ).loc main_arg3))

/-- The three result arrays and the arguments after the run. -/
theorem run_result : θ_run (defs (F := Ideal)) (onTc (τ := τ) (main (F := Ideal))) ⟨m, fun _ => 0, ρ⟩ (fun r => ∀ c : Dev nD,
      r.2.mem ((c.tc : Thread nD τ).loc main_v4_0) = hOf m c
      ∧ r.2.mem ((c.tc : Thread nD τ).loc main_v4_1) = metaOf m c
      ∧ r.2.mem ((c.tc : Thread nD τ).loc main_v4_2) = countsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_h m c), ((h.1 c).1 5).trans (final_meta m c),
      ((h.1 c).1 6).trans (final_counts m c), h.2 c⟩)
    (θ_run_and (run_main m ρ) (unchanged m ρ))

/-- The reference's run from equal arguments. -/
theorem ref_run (m' : (ℓ : Loc Cert.RouterRefIdeal.nD Cert.RouterRefIdeal.τ Cert.RouterRefIdeal.sig) → Buf (Elt Ideal) ℓ)
    (ρ' : Dev Cert.RouterRefIdeal.nD → PrngReg)
    (hagree : ∀ c : Dev nD,
      m' ((c.tc : Thread Cert.RouterRefIdeal.nD Cert.RouterRefIdeal.τ).loc Cert.RouterRefIdeal.main_arg0) = m ((c.tc : Thread nD τ).loc main_arg0)
      ∧ m' ((c.tc : Thread Cert.RouterRefIdeal.nD Cert.RouterRefIdeal.τ).loc Cert.RouterRefIdeal.main_arg1) = m ((c.tc : Thread nD τ).loc main_arg1)
      ∧ m' ((c.tc : Thread Cert.RouterRefIdeal.nD Cert.RouterRefIdeal.τ).loc Cert.RouterRefIdeal.main_arg2) = m ((c.tc : Thread nD τ).loc main_arg2)
      ∧ m' ((c.tc : Thread Cert.RouterRefIdeal.nD Cert.RouterRefIdeal.τ).loc Cert.RouterRefIdeal.main_arg3) = m ((c.tc : Thread nD τ).loc main_arg3)) :
    θ_run (Cert.RouterRefIdeal.defs (F := Ideal)) (onTc (τ := Cert.RouterRefIdeal.τ) (Cert.RouterRefIdeal.main (F := Ideal))) ⟨m', fun _ => 0, ρ'⟩ (fun r => ∀ c : Dev Cert.RouterRefIdeal.nD,
      r.2.mem ((c.tc : Thread Cert.RouterRefIdeal.nD Cert.RouterRefIdeal.τ).loc Cert.RouterRefIdeal.main_v12) = hOf m c
      ∧ r.2.mem ((c.tc : Thread Cert.RouterRefIdeal.nD Cert.RouterRefIdeal.τ).loc Cert.RouterRefIdeal.main_v62) = metaOf m c
      ∧ r.2.mem ((c.tc : Thread Cert.RouterRefIdeal.nD Cert.RouterRefIdeal.τ).loc Cert.RouterRefIdeal.main_v64) = countsOf m c
      ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)) := by
  refine (θ_run Cert.RouterRefIdeal.defs _ _).mono (fun r h c => ⟨(h c).1.trans ?_, (h c).2.1.trans ?_, (h c).2.2.1.trans ?_,
    (h c).2.2.2⟩) (Cert.RouterRefIdeal.Value.run m' ρ')
  all_goals obtain ⟨h0, h1, h2, h3⟩ := hagree c
  · rw [val_main_v12_eq, h0, h1, hOf]
  · rw [val_main_v62_eq, h0, h1, h2, h3, metaOf]
  · rw [val_main_v64_eq, h0, h1, h2, h3, countsOf]

end Cert.RouterIdeal.Result

end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Read
public import proofs.«01_k».proof.Proof.FfnValue
public import proofs.«01_k».proof.Proof.Gen.Merge.Frame
public import proofs.«01_k».proof.Proof.Gen.MergeIdeal.Value
public import proofs.«01_k».proof.Proof.Gen.MergeRefIdeal.Read
public import proofs.«01_k».proof.Proof.MergeValue
public import proofs.«01_k».proof.Proof.Gen.Proj.Frame
public import proofs.«01_k».proof.Proof.Gen.ProjIdeal.Value
public import proofs.«01_k».proof.Proof.Gen.ProjRefIdeal.Read
public import proofs.«01_k».proof.Proof.ProjValue
public import proofs.«01_k».proof.Proof.Gen.Grouped.Frame.RunD
public import proofs.«01_k».proof.Proof.Gen.GroupedIdeal.Frame.RunD
public import proofs.«01_k».proof.Proof.GroupedFrame
public import proofs.«01_k».proof.Proof.GroupedTables
public import proofs.«01_k».proof.Proof.Gen.GroupedRefIdeal.Read
public import proofs.«01_k».proof.Proof.GroupedIdealRun
public import proofs.«01_k».proof.Proof.Gen.ProjMl.Frame
public import proofs.«01_k».proof.Proof.Gen.ProjMlIdeal.Value
public import proofs.«01_k».proof.Proof.Gen.ProjMlRefIdeal.Read
public import proofs.«01_k».proof.Proof.ProjMlValue
public import proofs.«01_k».proof.Proof.Gen.Rope.Frame
public import proofs.«01_k».proof.Proof.Gen.RopeIdeal.Value
public import proofs.«01_k».proof.Proof.Gen.RopeRefIdeal.Read
public import proofs.«01_k».proof.Proof.RopeRun
public import proofs.«01_k».proof.Proof.Gen.Attn.Frame
public import proofs.«01_k».proof.Proof.Gen.AttnIdeal.Frame
public import proofs.«01_k».proof.Proof.Gen.Router.Frame
public import proofs.«01_k».proof.Proof.Gen.RouterIdeal.Value
public import proofs.«01_k».proof.Proof.Gen.RouterRefIdeal.Read
public import proofs.«01_k».proof.Proof.RouterRun
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

attribute [local instance] Cert.Ffn.Gen.facts Cert.FfnIdeal.Gen.facts Cert.FfnRefIdeal.Gen.facts Cert.Merge.Gen.facts Cert.MergeIdeal.Gen.facts Cert.MergeRefIdeal.Gen.facts Cert.Proj.Gen.facts Cert.ProjIdeal.Gen.facts Cert.ProjRefIdeal.Gen.facts Cert.Grouped.Gen.facts Cert.GroupedIdeal.Gen.facts Cert.GroupedRefIdeal.Gen.facts Cert.ProjMl.Gen.facts Cert.ProjMlIdeal.Gen.facts Cert.ProjMlRefIdeal.Gen.facts Cert.Rope.Gen.facts Cert.RopeIdeal.Gen.facts Cert.RopeRefIdeal.Gen.facts Cert.Attn.Gen.facts Cert.AttnIdeal.Gen.facts

/-- The reference of the `Ffn` call runs and leaves its arguments alone. -/
theorem ref_Ffn : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- The `Ffn` call's ideal kernel and its reference end with equal results. -/
theorem algebraic_Ffn : Cert.algebraic_FfnIdeal_FfnRefIdeal := by
  pair_intro
  · run_from Cert.FfnIdeal.Gen.run_main m g
  · run_from Cert.FfnRefIdeal.Value.run m' g'
    exact (Cert.FfnIdeal.Result.final m c).symm

/-- The reference of the `Merge` call runs and leaves its arguments alone. -/
theorem ref_Merge : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The `Merge` call's ideal kernel and its reference end with equal results. -/
theorem algebraic_Merge : Cert.algebraic_MergeIdeal_MergeRefIdeal := by
  pair_intro
  · run_from Cert.MergeIdeal.Gen.run_main m g
  · run_from Cert.MergeRefIdeal.Value.run m' g'
    obtain ⟨h0, h1, h2, h3, h4, h5, h6, h7, h8, h9, h10⟩ := hagree c
    refine (Cert.MergeRefIdeal.Read.val_main_v41_eq m' c).trans ?_
    rw [h0, h1, h2, h3, h4, h5, h6, h7, h8, h9, h10]
    exact (Cert.MergeIdeal.Result.final m c).symm

/-- The reference of the `Proj` call runs and leaves its arguments alone. -/
theorem ref_Proj : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run m g)

/-- The `Proj` call's ideal kernel and its reference end with equal results. -/
theorem algebraic_Proj : Cert.algebraic_ProjIdeal_ProjRefIdeal := by
  pair_intro
  · run_from Cert.ProjIdeal.Gen.run_main m g
  · run_from Cert.ProjRefIdeal.Value.run m' g'
    exact (Cert.ProjIdeal.Result.final m c).symm

/-- The reference of the `Grouped` call runs and leaves its arguments alone. -/
theorem ref_Grouped : Cert.quiescent_GroupedRefIdeal := fun m g _ =>
  (θ_run Cert.GroupedRefIdeal.defs _ _).mono (fun r h => ⟨fun c => (h c).2, sem_eq_zero_of_no_sems (by decide) r.2⟩)
    (Cert.GroupedRefIdeal.Value.run m g)

/-- The `Grouped` call's ideal kernel and its reference end with equal results. -/
theorem algebraic_Grouped : Cert.algebraic_GroupedIdeal_GroupedRefIdeal := by
  intro m g m' g' _ hagree
  refine ⟨fun c => Cert.GroupedIdeal.Result.groupedOf m c, Cert.GroupedIdeal.Result.run_result m g (Cert.GroupedIdeal.Tables.ok m),
    (θ_run Cert.GroupedRefIdeal.defs _ _).mono (fun r h c => ⟨(h c).1.trans ?_, (h c).2⟩) (Cert.GroupedRefIdeal.Value.run m' g')⟩
  obtain ⟨h0, h1, h2, h3, h4⟩ := hagree c
  exact Cert.GroupedIdeal.Result.ref_result m m' c h0 h1 h2 h3 h4

/-- The reference of the `ProjMl` call runs and leaves its arguments alone. -/
theorem ref_ProjMl : Cert.quiescent_ProjMlRefIdeal := fun m g _ =>
  (θ_run Cert.ProjMlRefIdeal.defs _ _).mono (fun r h => ⟨fun c => (h c).2, sem_eq_zero_of_no_sems (by decide) r.2⟩)
    (Cert.ProjMlRefIdeal.Value.run m g)

/-- The `ProjMl` call's ideal kernel and its reference end with equal results. -/
theorem algebraic_ProjMl : Cert.algebraic_ProjMlIdeal_ProjMlRefIdeal := by
  pair_intro
  · run_from Cert.ProjMlIdeal.Gen.run_main m g
  · run_from Cert.ProjMlRefIdeal.Value.run m' g'
    exact (Cert.ProjMlIdeal.Result.final m c).symm

/-- The reference of the `Rope` call runs and leaves its arguments alone. -/
theorem ref_Rope : Cert.quiescent_RopeRefIdeal := fun m g _ =>
  (θ_run Cert.RopeRefIdeal.defs _ _).mono (fun r h => ⟨fun c => (h c).2.2.2.2, sem_eq_zero_of_no_sems (by decide) r.2⟩)
    (Cert.RopeRefIdeal.Value.run m g)

/-- The `Rope` call's ideal kernel and its reference end with equal results. -/
theorem algebraic_Rope : Cert.algebraic_RopeIdeal_RopeRefIdeal := by
  intro m g m' g' _ hagree
  exact ⟨fun c => Cert.RopeIdeal.Result.qOf m c, fun c => Cert.RopeIdeal.Result.kOf m c, fun c => Cert.RopeIdeal.Result.vOf m c,
    fun c => Cert.RopeIdeal.Result.meanOf m c, Cert.RopeIdeal.Result.run_result m g, Cert.RopeIdeal.Result.ref_run m m' g' hagree⟩

/-- The reference of the `Router` call runs and leaves its arguments alone. -/
theorem ref_Router : Cert.quiescent_RouterRefIdeal := fun m g _ =>
  (θ_run Cert.RouterRefIdeal.defs _ _).mono (fun r h => ⟨fun c => (h c).2.2.2, sem_eq_zero_of_no_sems (by decide) r.2⟩)
    (Cert.RouterRefIdeal.Value.run m g)

/-- The `Router` call's ideal kernel and its reference end with equal results. -/
theorem algebraic_Router : Cert.algebraic_RouterIdeal_RouterRefIdeal := by
  intro m g m' g' _ hagree
  exact ⟨fun c => Cert.RouterIdeal.Result.hOf m c, fun c => Cert.RouterIdeal.Result.metaOf m c,
    fun c => Cert.RouterIdeal.Result.countsOf m c, Cert.RouterIdeal.Result.run_result m g, Cert.RouterIdeal.Result.ref_run m m' g' hagree⟩

theorem claim : Cert.Claim :=
  ⟨Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Grouped.Gen.facts, Cert.GroupedIdeal.Gen.facts, Cert.GroupedRefIdeal.Gen.facts, Cert.ProjMl.Gen.facts, Cert.ProjMlIdeal.Gen.facts, Cert.ProjMlRefIdeal.Gen.facts, Cert.Rope.Gen.facts, Cert.RopeIdeal.Gen.facts, Cert.RopeRefIdeal.Gen.facts, Cert.Attn.Gen.facts, Cert.AttnIdeal.Gen.facts, Cert.Router.Gen.facts, Cert.RouterIdeal.Gen.facts, Cert.RouterRefIdeal.Gen.facts,
   fun m ρ _ => Cert.Ffn.Gen.frame m ρ, fun m ρ _ => Cert.FfnIdeal.Gen.frame m ρ, ref_Ffn,
   fun m ρ _ => Cert.Merge.Gen.frame m ρ, fun m ρ _ => Cert.MergeIdeal.Gen.frame m ρ, ref_Merge,
   fun m ρ _ => Cert.Proj.Gen.frame m ρ, fun m ρ _ => Cert.ProjIdeal.Gen.frame m ρ, ref_Proj,
   fun m ρ _ => Cert.Grouped.Gen.frame m ρ (Cert.Grouped.Tables.ok m), fun m ρ _ => Cert.GroupedIdeal.Gen.frame m ρ (Cert.GroupedIdeal.Tables.ok m), ref_Grouped,
   fun m ρ _ => Cert.ProjMl.Gen.frame m ρ, fun m ρ _ => Cert.ProjMlIdeal.Gen.frame m ρ, ref_ProjMl,
   fun m ρ _ => Cert.Rope.Gen.frame m ρ, fun m ρ _ => Cert.RopeIdeal.Gen.frame m ρ, ref_Rope,
   fun m ρ _ => Cert.Attn.Gen.frame m ρ, fun m ρ _ => Cert.AttnIdeal.Gen.frame m ρ,
   fun m ρ _ => Cert.Router.Gen.frame m ρ, fun m ρ _ => Cert.RouterIdeal.Gen.frame m ρ, ref_Router,
   trivial, algebraic_Ffn, trivial, algebraic_Merge, trivial, algebraic_Proj, trivial, algebraic_Grouped, trivial, algebraic_ProjMl, trivial, algebraic_Rope, trivial, trivial, algebraic_Router⟩

end Cert.Proof

end
